-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2_over_n" .f32 0x39B17218#32 (((Real.log 2) * (1 / 2048) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1152 : Shape := ⟨3, ![2, 1024, 1152]⟩
abbrev S2x1024 : Shape := ⟨2, ![2, 1024]⟩
abbrev S_ : Shape := ⟨0, ![]⟩
abbrev S1x1 : Shape := ⟨2, ![1, 1]⟩
abbrev S2048x1152 : Shape := ⟨2, ![2048, 1152]⟩
abbrev S1x2048 : Shape := ⟨2, ![1, 2048]⟩
abbrev S2048x1 : Shape := ⟨2, ![2048, 1]⟩
abbrev S256x1152 : Shape := ⟨2, ![256, 1152]⟩
abbrev S256x1 : Shape := ⟨2, ![256, 1]⟩
abbrev S1x256 : Shape := ⟨2, ![1, 256]⟩
abbrev S256x256 : Shape := ⟨2, ![256, 256]⟩
abbrev S256 : Shape := ⟨1, ![256]⟩

abbrev nBuf : Space → Nat
  | .hbm => 17
  | .vmem => 13
  | .smem => 2
  | _ => 0

abbrev bufTy : (tb : Table) → Fin (tcTables nBuf tb) → BufTy
  | .hbm, ⟨0, _⟩ => ⟨S2x1024x1152, .fp8e4m3⟩
  | .hbm, ⟨1, _⟩ => ⟨S2x1024, .f32⟩
  | .hbm, ⟨2, _⟩ => ⟨S2x1024x1152, .fp8e4m3⟩
  | .hbm, ⟨3, _⟩ => ⟨S2x1024, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S2048x1152, .fp8e4m3⟩
  | .hbm, ⟨9, _⟩ => ⟨S1x2048, .f32⟩
  | .hbm, ⟨10, _⟩ => ⟨S2048x1152, .fp8e4m3⟩
  | .hbm, ⟨11, _⟩ => ⟨S2048x1, .f32⟩
  | .hbm, ⟨12, _⟩ => ⟨S1x2048, .f32⟩
  | .hbm, ⟨13, _⟩ => ⟨S2048x1152, .bf16⟩
  | .hbm, ⟨14, _⟩ => ⟨S2048x1152, .bf16⟩
  | .hbm, ⟨15, _⟩ => ⟨S1x2048, .f32⟩
  | .hbm, ⟨16, _⟩ => ⟨S1x2048, .f32⟩
  | .local _ .vmem, ⟨0, _⟩ => ⟨S2048x1152, .fp8e4m3⟩
  | .local _ .vmem, ⟨1, _⟩ => ⟨S1x2048, .f32⟩
  | .local _ .vmem, ⟨2, _⟩ => ⟨S256x1152, .fp8e4m3⟩
  | .local _ .vmem, ⟨3, _⟩ => ⟨S256x1152, .fp8e4m3⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S2048x1152, .bf16⟩
  | .local _ .vmem, ⟨8, _⟩ => ⟨S256x1152, .bf16⟩
  | .local _ .vmem, ⟨9, _⟩ => ⟨S256x1152, .bf16⟩
  | .local _ .vmem, ⟨10, _⟩ => ⟨S1x2048, .f32⟩
  | .local _ .vmem, ⟨11, _⟩ => ⟨S1x2048, .f32⟩
  | .local _ .vmem, ⟨12, _⟩ => ⟨S2048x1152, .f32⟩
  | .local _ .smem, ⟨0, _⟩ => ⟨S1x1, .f32⟩
  | .local _ .smem, ⟨1, _⟩ => ⟨S1x1, .f32⟩
  | _, _ => ⟨S2x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_339 : BitVec 32 := 7#32
  let v781 : BitVec 1 := Scalar.cmpi .eq arg0 c7_i32_339
  let v782 : BitVec 32 := Scalar.extui v781
  let c0_i32_340 : BitVec 32 := 0#32
  let v783 : BitVec 1 := Scalar.cmpi .ne v782 c0_i32_340
  v783

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1152 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1152 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "ln2" => some ((Real.log 2 : ℝ) : EReal)
  | "ln2_over_n" => some (((Real.log 2) * (1 / 2048) : ℝ) : EReal)
  | "log2e" => some (((Real.log 2)⁻¹ : ℝ) : EReal)
  | _ => none
-- ==== ReferenceIdeal.lean ====
abbrev S2x1024x1152 : Shape := ⟨3, ![2, 1024, 1152]⟩
abbrev S2x1024 : Shape := ⟨2, ![2, 1024]⟩
abbrev S_ : Shape := ⟨0, ![]⟩
abbrev S1x1 : Shape := ⟨2, ![1, 1]⟩
abbrev S2048x1152 : Shape := ⟨2, ![2048, 1152]⟩
abbrev S2048x1 : Shape := ⟨2, ![2048, 1]⟩
abbrev S1x2048 : Shape := ⟨2, ![1, 2048]⟩
abbrev S2048x2048 : Shape := ⟨2, ![2048, 2048]⟩
abbrev S2048 : Shape := ⟨1, ![2048]⟩

abbrev nBuf : Space → Nat
  | .hbm => 17
  | .vmem => 9
  | .smem => 2
  | _ => 0

abbrev bufTy : (tb : Table) → Fin (tcTables nBuf tb) → BufTy
  | .hbm, ⟨0, _⟩ => ⟨S2x1024x1152, .fp8e4m3⟩
  | .hbm, ⟨1, _⟩ => ⟨S2x1024, .f32⟩
  | .hbm, ⟨2, _⟩ => ⟨S2x1024x1152, .fp8e4m3⟩
  | .hbm, ⟨3, _⟩ => ⟨S2x1024, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S2048x1152, .fp8e4m3⟩
  | .hbm, ⟨9, _⟩ => ⟨S2048x1, .f32⟩
  | .hbm, ⟨10, _⟩ => ⟨S2048x1152, .fp8e4m3⟩
  | .hbm, ⟨11, _⟩ => ⟨S1x2048, .f32⟩
  | .hbm, ⟨12, _⟩ => ⟨S1x2048, .f32⟩
  | .hbm, ⟨13, _⟩ => ⟨S2048x1152, .bf16⟩
  | .hbm, ⟨14, _⟩ => ⟨S2048x1152, .bf16⟩
  | .hbm, ⟨15, _⟩ => ⟨S1x2048, .f32⟩
  | .hbm, ⟨16, _⟩ => ⟨S1x2048, .f32⟩
  | .local _ .vmem, ⟨0, _⟩ => ⟨S2048x1152, .fp8e4m3⟩
  | .local _ .vmem, ⟨1, _⟩ => ⟨S2048x1, .f32⟩
  | .local _ .vmem, ⟨2, _⟩ => ⟨S2048x1152, .fp8e4m3⟩
  | .local _ .vmem, ⟨3, _⟩ => ⟨S1x2048, .f32⟩
  | .local _ .vmem, ⟨4, _⟩ => ⟨S1x2048, .f32⟩
  | .local _ .vmem, ⟨5, _⟩ => ⟨S2048x1152, .bf16⟩
  | .local _ .vmem, ⟨6, _⟩ => ⟨S2048x1152, .bf16⟩
  | .local _ .vmem, ⟨7, _⟩ => ⟨S1x2048, .f32⟩
  | .local _ .vmem, ⟨8, _⟩ => ⟨S1x2048, .f32⟩
  | .local _ .smem, ⟨0, _⟩ => ⟨S1x1, .f32⟩
  | .local _ .smem, ⟨1, _⟩ => ⟨S1x1, .f32⟩
  | _, _ => ⟨S2x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1152 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pieces.lean ====
/- Stores into one buffer, chunk by chunk: each store replaces a box of the buffer by a function of what the box held.
   Two ways such a sequence meets a kernel: over contents the buffer already has, and over a constant fill made first. Both
   read back chunk by chunk. -/
module

public import Idealize.ShloMosaic.Lib.Pipeline.ValueKit

@[expose] public section

set_option maxRecDepth 16384

noncomputable section

namespace Cert.KernelIdeal.Hand

open Idealize.ShloMosaic Idealize.ShloMosaic.View

variable {sig : RefSig} {κ : Kind} {sp : Space} {S : Shape} {e : EltTy} {Val : EltTy → Type}

/-- The first `n` chunks' stores, last first: chunk `k` stores `step k` of what `old` holds in the chunk's box. -/
def stores (box : ℕ → Rect S) (step : (k : ℕ) → ((box k).shape.Idx → Val e) → (box k).shape.Idx → Val e)
    (old : S.Idx → Val e) : ℕ → List (Piece Val S e)
  | 0 => []
  | k + 1 => ⟨box k, step k (ld old (box k))⟩ :: stores box step old k

/-- The same after a fill `z`: chunk `k` stores `step k` of what its box reads after the fill and the chunks before it. -/
def storesOver [∀ e, Nonempty (Val e)] (v : View sig κ sp S e) (z : Piece Val S e) (box : ℕ → Rect S)
    (step : (k : ℕ) → ((box k).shape.Idx → Val e) → (box k).shape.Idx → Val e) : ℕ → List (Piece Val S e)
  | 0 => [z]
  | k + 1 => ⟨box k, step k (v.readCov (storesOver v z box step k) (box k).toLoadRect)⟩ :: storesOver v z box step k

/-- The boxes of the first `N` chunks are pairwise disjoint. -/
def BoxesApart (box : ℕ → Rect S) (N : ℕ) : Prop :=
  ∀ k k', k < N → k' < N → k ≠ k' → ∀ x, (box k).emb x ∉ (box k').set

variable [∀ e, Nonempty (Val e)] {box : ℕ → Rect S} {step : (k : ℕ) → ((box k).shape.Idx → Val e) → (box k).shape.Idx → Val e}
variable {N : ℕ}

/-- Inside chunk `k`'s box the stores leave what chunk `k` stored. -/
theorem canon_stores (hd : BoxesApart box N) (old : S.Idx → Val e) (k : ℕ) :
    ∀ n, n ≤ N → k < n → ∀ x, canon (stores box step old n) ((box k).emb x) = step k (ld old (box k)) x
  | 0, _, h, _ => absurd h (Nat.not_lt_zero _)
  | n + 1, hn, h, x => by
    rw [stores]
    by_cases hk : k = n
    · subst hk; exact canon_cons_emb _ _ _ x
    · rw [canon_cons_of_not_mem _ _ (hd k n (by omega) (by omega) hk x)]
      exact canon_stores hd old k n (by omega) (by omega) x

/-- Over a constant fill: inside chunk `k`'s box, before its store, the fill. -/
theorem canon_storesOver_fill (hd : BoxesApart box N) (v : View sig κ sp S e) (z : Piece Val S e) (c : Val e)
    (hz : ∀ y, canon [z] y = c) (k : ℕ) (hk : k < N) :
    ∀ n, n ≤ k → ∀ x, canon (storesOver v z box step n) ((box k).emb x) = c
  | 0, _, _ => hz _
  | n + 1, hn, x => by
    rw [storesOver, canon_cons_of_not_mem _ _ (hd k n hk (by omega) (by omega) x)]
    exact canon_storesOver_fill hd v z c hz k hk n (by omega) x

/-- Over a constant fill: inside chunk `k`'s box, after its store, what the chunk makes of the fill. -/
theorem canon_storesOver (hd : BoxesApart box N) (v : View sig κ sp S e) (z : Piece Val S e) (c : Val e)
    (hz : ∀ y, canon [z] y = c) (k : ℕ) :
    ∀ n, n ≤ N → k < n → ∀ x, canon (storesOver v z box step n) ((box k).emb x) = step k (fun _ => c) x
  | 0, _, h, _ => absurd h (Nat.not_lt_zero _)
  | n + 1, hn, h, x => by
    rw [storesOver]
    by_cases hk : k = n
    · subst hk
      rw [canon_cons_emb]
      refine congrFun (congrArg (step k) ?_) x
      rw [readCov_eq_canon']
      exact funext fun j => canon_storesOver_fill hd v z c hz k (by omega) k le_rfl j
    · rw [canon_cons_of_not_mem _ _ (hd k n (by omega) (by omega) hk x)]
      exact canon_storesOver hd v z c hz k n (by omega) (by omega) x

end Cert.KernelIdeal.Hand

end
-- ==== Proof.Tile.lean ====
/- The kernel's inner chunk, said once: at a grid point the body treats eight chunks of 256 rows of `x` alike, only the
   chunk's number in the offsets and in the diagonal mask differing. Each quantity of the body as a function of the chunk. -/
module

public import proofs.«01_k».proof.Proof.Gen.KernelIdeal.Frame
public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

theorem inbRow (n : ℕ) : ∀ a, (![0, 256 * (n % 8)] : Fin 2 → ℕ) a + S1x256.size a ≤ S1x2048.size a :=
  Rect.inb₂ (show 0 + 1 ≤ 1 by omega) (show 256 * (n % 8) + 256 ≤ 2048 by omega)
theorem inbMat (n : ℕ) : ∀ a, (![256 * (n % 8), 0] : Fin 2 → ℕ) a + S256x1152.size a ≤ S2048x1152.size a :=
  Rect.inb₂ (show 256 * (n % 8) + 256 ≤ 2048 by omega) (show 0 + 1152 ≤ 1152 by omega)

/-- chunk `n` of a row of 2048 entries -/
abbrev rowBox (n : ℕ) : Rect S1x2048 := Rect.unit ![0, 256 * (n % 8)] S1x256.size (inbRow n)
/-- chunk `n` of a matrix of 2048 rows -/
abbrev matBox (n : ℕ) : Rect S2048x1152 := Rect.unit ![256 * (n % 8), 0] S256x1152.size (inbMat n)

/-- the whole matrix -/
abbrev wholeBox : Rect S2048x1152 := Rect.unit ![0, 0] ![2048, 1152] inb_S2048x1152_S2048x1152_0_0
/-- what the accumulator holds, read whole -/
abbrev readWhole (L : Vec F S2048x1152 .f32) : Vec F S2048x1152 .f32 := View.ld L wholeBox

section
variable (g : grid0.Coords) (x0 x1 : Vec F S1x1 .f32) (x2 : Vec F S2048x1152 .fp8e4m3) (x3 : Vec F S1x2048 .f32)
  (x4 : Vec F S256x1152 .fp8e4m3) (x5 : Vec F S256x1 .f32) (n : ℕ)

/-- the one entry of a 1×1 block -/
def sc (x : Vec F S1x1 .f32) : Elt F .f32 := View.ld x (Rect.unit ![0, 0] S1x1.size inb_S1x1_S1x1_0_0) (Shape.Idx.first (by decide))
/-- the block of `y` -/
def yb : Vec F S256x1152 .fp8e4m3 := View.ld x4 (Rect.unit ![0, 0] S256x1152.size inb_S256x1152_S256x1152_0_0)
/-- its scales -/
def ysb : Vec F S256x1 .f32 := View.ld x5 (Rect.unit ![0, 0] S256x1.size inb_S256x1_S256x1_0_0)
/-- chunk `n` of `x` -/
def xb : Vec F S256x1152 .fp8e4m3 := View.ld x2 (matBox n)
/-- its scales -/
def xsb : Vec F S1x256 .f32 := View.ld x3 (rowBox n)

/-- where the tile of chunk `n` meets the diagonal -/
def mask : IVec S256x256 1 :=
  cmpi .eq (addi (iota .tc S256x256 32 [0] iota_S256x256_d0_w32)
    (broadcast S256x256 (Scalar.muli (Scalar.subi (BitVec.ofNat 32 (g 0).val) (BitVec.ofNat 32 n)) 256#32)))
    (iota .tc S256x256 32 [1] iota_S256x256_d1_w32)

/-- the scaled products of the tile, in base 2 -/
def tsT : FVec F S256x256 .f32 := k0_pay14 (sc x0) (yb x4) (ysb x5) (xb x2 n) (xsb x3 n)

/-- the logits of the tile in base 2, negated on the diagonal -/
def uT : FVec F S256x256 .f32 :=
  select (mask g n)
    (subf (broadcast S256x256 (Scalar.ofBits .f32 0x00000000#32)) (addf (tsT x0 x2 x3 x4 x5 n) (broadcast S256x256 (k0_pay5 (sc x1)))))
    (addf (tsT x0 x2 x3 x4 x5 n) (broadcast S256x256 (k0_pay5 (sc x1))))

/-- the logistic of the tile's logits, negated on the diagonal -/
def sgT : FVec F S256x256 .f32 :=
  k0_pay19 (mask g n) (uT g x0 x1 x2 x3 x4 x5 n) (absf (uT g x0 x1 x2 x3 x4 x5 n))

/-- what the tile adds to the loss row -/
def lossStep (old : Vec F S1x256 .f32) : FVec F S1x256 .f32 :=
  k0_pay20 (uT g x0 x1 x2 x3 x4 x5 n) (absf (uT g x0 x1 x2 x3 x4 x5 n)) old
/-- what it adds to the bias gradient row -/
def dbStep (old : Vec F S1x256 .f32) : FVec F S1x256 .f32 :=
  k0_pay21 (mask g n) (uT g x0 x1 x2 x3 x4 x5 n) (absf (uT g x0 x1 x2 x3 x4 x5 n)) old
/-- what it adds to the temperature gradient row -/
def dltStep (old : Vec F S1x256 .f32) : FVec F S1x256 .f32 :=
  k0_pay22 (tsT x0 x2 x3 x4 x5 n) (sgT g x0 x1 x2 x3 x4 x5 n) old
/-- what it adds to the gradient of `x` -/
def dxStep (old : Vec F S256x1152 .f32) : FVec F S256x1152 .f32 :=
  k0_pay23 (k0_pay4 (sc x0)) (k0_pay10 (yb x4)) (k0_pay11 (ysb x5)) (sgT g x0 x1 x2 x3 x4 x5 n) old
/-- its share of the gradient of the block of `y` -/
def dyPart : FVec F S256x1152 .f32 :=
  k0_pay24 (k0_pay4 (sc x0)) (k0_pay12 (xb x2 n)) (k0_pay13 (xsb x3 n)) (sgT g x0 x1 x2 x3 x4 x5 n)

/-- the shares of the first `n + 1` chunks -/
def dySum : ℕ → FVec F S256x1152 .f32
  | 0 => dyPart g x0 x1 x2 x3 x4 x5 0
  | k + 1 => addf (dySum k) (dyPart g x0 x1 x2 x3 x4 x5 (k + 1))

end

end Cert.KernelIdeal.Hand

end
-- ==== Proof.RunA.lean ====
/- What the body leaves at the first grid point, chunk by chunk: the accumulators start from a fill of zeros. -/
module

public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]
variable (c : Dev nD) (i : grid0.Coords) (arg1 : Memref sig .tc .smem S1x1 .f32) (harg1 : arg1.IsWhole)
  (arg2 : Memref sig .tc .smem S1x1 .f32) (harg2 : arg2.IsWhole) (arg3 : Memref sig .tc .vmem S2048x1152 .fp8e4m3)
  (harg3 : arg3.IsWhole) (arg4 : Memref sig .tc .vmem S1x2048 .f32) (harg4 : arg4.IsWhole)
  (arg5 : Memref sig .tc .vmem S256x1152 .fp8e4m3) (harg5 : arg5.IsWhole) (arg6 : Memref sig .tc .vmem S256x1 .f32)
  (harg6 : arg6.IsWhole) (arg7 : Memref sig .tc .vmem S1x2048 .f32) (harg7 : arg7.IsWhole)
  (arg8 : Memref sig .tc .vmem S2048x1152 .bf16) (harg8 : arg8.IsWhole) (arg9 : Memref sig .tc .vmem S256x1152 .bf16)
  (harg9 : arg9.IsWhole) (arg10 : Memref sig .tc .vmem S1x2048 .f32) (harg10 : arg10.IsWhole)
  (arg11 : Memref sig .tc .vmem S1x2048 .f32) (harg11 : arg11.IsWhole) (arg12 : Memref sig .tc .vmem S2048x1152 .f32)
  (harg12 : arg12.IsWhole)
variable (hc0 : cond0_0 i) (hc1 : ¬cond0_1 i)
variable (x0 : Vec F S1x1 .f32) (x1 : Vec F S1x1 .f32) (x2 : Vec F S2048x1152 .fp8e4m3) (x3 : Vec F S1x2048 .f32)
  (x4 : Vec F S256x1152 .fp8e4m3) (x5 : Vec F S256x1 .f32)

/-- The block of the gradient of `y` the point writes: the sum of the eight chunks' shares, rounded. -/
theorem outA_8 :
    out0_A_8 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 =
      View.canon [⟨Rect.unit ![0, 0] ![256, 1152] inb_S256x1152_S256x1152_0_0, truncf .bf16 (dySum i x0 x1 x2 x3 x4 x5 7) bitsLt_bf16_f32⟩] := by
  have h : (kernelRun0_A c i arg1 harg1 arg2 harg2 arg3 harg3 arg4 harg4 arg5 harg5 arg6 harg6 arg7 harg7 arg8 harg8 arg9 harg9 arg10 harg10
      arg11 harg11 arg12 harg12 hc0 hc1 x0 x1 x2 x3 x4 x5).2.2.1 =
      [⟨Rect.unit ![0, 0] ![256, 1152] inb_S256x1152_S256x1152_0_0, truncf .bf16 (dySum i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5)) 7) bitsLt_bf16_f32⟩] := rfl
  unfold out0_A_8
  rw [h, View.read_writes_junk_eq_canon]
  simp only [harg1.read_unread, harg2.read_unread, harg3.read_unread, harg4.read_unread, harg5.read_unread, harg6.read_unread]

/-- The loss row after the point: chunk by chunk. -/
theorem outA_6 :
    out0_A_6 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 = View.canon (storesOver arg7.view ⟨Rect.unit ![0, 0] ![1, 2048] inb_S1x2048_S1x2048_0_0, k0_pay7⟩ rowBox
        (lossStep i x0 x1 x2 x3 x4 x5) 8) := by
  have h : (kernelRun0_A c i arg1 harg1 arg2 harg2 arg3 harg3 arg4 harg4 arg5 harg5 arg6 harg6 arg7 harg7 arg8 harg8 arg9 harg9 arg10 harg10
      arg11 harg11 arg12 harg12 hc0 hc1 x0 x1 x2 x3 x4 x5).1 =
      storesOver arg7.view ⟨Rect.unit ![0, 0] ![1, 2048] inb_S1x2048_S1x2048_0_0, k0_pay7⟩ rowBox
        (lossStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) 8 := rfl
  unfold out0_A_6
  rw [h, View.read_writes_junk_eq_canon]
  simp only [harg1.read_unread, harg2.read_unread, harg3.read_unread, harg4.read_unread, harg5.read_unread, harg6.read_unread]

/-- The temperature gradient row after the point: chunk by chunk. -/
theorem outA_9 :
    out0_A_9 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 = View.canon (storesOver arg10.view ⟨Rect.unit ![0, 0] ![1, 2048] inb_S1x2048_S1x2048_0_0, k0_pay8⟩ rowBox
        (dltStep i x0 x1 x2 x3 x4 x5) 8) := by
  have h : (kernelRun0_A c i arg1 harg1 arg2 harg2 arg3 harg3 arg4 harg4 arg5 harg5 arg6 harg6 arg7 harg7 arg8 harg8 arg9 harg9 arg10 harg10
      arg11 harg11 arg12 harg12 hc0 hc1 x0 x1 x2 x3 x4 x5).2.2.2.1 =
      storesOver arg10.view ⟨Rect.unit ![0, 0] ![1, 2048] inb_S1x2048_S1x2048_0_0, k0_pay8⟩ rowBox
        (dltStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) 8 := rfl
  unfold out0_A_9
  rw [h, View.read_writes_junk_eq_canon]
  simp only [harg1.read_unread, harg2.read_unread, harg3.read_unread, harg4.read_unread, harg5.read_unread, harg6.read_unread]

/-- The bias gradient row after the point: chunk by chunk. -/
theorem outA_10 :
    out0_A_10 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 = View.canon (storesOver arg11.view ⟨Rect.unit ![0, 0] ![1, 2048] inb_S1x2048_S1x2048_0_0, k0_pay9⟩ rowBox
        (dbStep i x0 x1 x2 x3 x4 x5) 8) := by
  have h : (kernelRun0_A c i arg1 harg1 arg2 harg2 arg3 harg3 arg4 harg4 arg5 harg5 arg6 harg6 arg7 harg7 arg8 harg8 arg9 harg9 arg10 harg10
      arg11 harg11 arg12 harg12 hc0 hc1 x0 x1 x2 x3 x4 x5).2.2.2.2.1 =
      storesOver arg11.view ⟨Rect.unit ![0, 0] ![1, 2048] inb_S1x2048_S1x2048_0_0, k0_pay9⟩ rowBox
        (dbStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) 8 := rfl
  unfold out0_A_10
  rw [h, View.read_writes_junk_eq_canon]
  simp only [harg1.read_unread, harg2.read_unread, harg3.read_unread, harg4.read_unread, harg5.read_unread, harg6.read_unread]

/-- The accumulator of the gradient of `x` after the point: chunk by chunk. -/
theorem soutA_0 :
    sout0_A_0 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 = View.canon (storesOver arg12.view ⟨Rect.unit ![0, 0] ![2048, 1152] inb_S2048x1152_S2048x1152_0_0, k0_pay6⟩ matBox
        (dxStep i x0 x1 x2 x3 x4 x5) 8) := by
  have h : (kernelRun0_A c i arg1 harg1 arg2 harg2 arg3 harg3 arg4 harg4 arg5 harg5 arg6 harg6 arg7 harg7 arg8 harg8 arg9 harg9 arg10 harg10
      arg11 harg11 arg12 harg12 hc0 hc1 x0 x1 x2 x3 x4 x5).2.2.2.2.2.1 =
      storesOver arg12.view ⟨Rect.unit ![0, 0] ![2048, 1152] inb_S2048x1152_S2048x1152_0_0, k0_pay6⟩ matBox
        (dxStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) 8 := rfl
  unfold sout0_A_0
  rw [h, View.read_writes_junk_eq_canon]
  simp only [harg1.read_unread, harg2.read_unread, harg3.read_unread, harg4.read_unread, harg5.read_unread, harg6.read_unread]

end Cert.KernelIdeal.Hand

end
-- ==== Proof.RunB.lean ====
/- What the body leaves at a grid point between the first and the last, chunk by chunk. -/
module

public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]
variable (c : Dev nD) (i : grid0.Coords) (arg1 : Memref sig .tc .smem S1x1 .f32) (harg1 : arg1.IsWhole)
  (arg2 : Memref sig .tc .smem S1x1 .f32) (harg2 : arg2.IsWhole) (arg3 : Memref sig .tc .vmem S2048x1152 .fp8e4m3)
  (harg3 : arg3.IsWhole) (arg4 : Memref sig .tc .vmem S1x2048 .f32) (harg4 : arg4.IsWhole)
  (arg5 : Memref sig .tc .vmem S256x1152 .fp8e4m3) (harg5 : arg5.IsWhole) (arg6 : Memref sig .tc .vmem S256x1 .f32)
  (harg6 : arg6.IsWhole) (arg7 : Memref sig .tc .vmem S1x2048 .f32) (harg7 : arg7.IsWhole)
  (arg8 : Memref sig .tc .vmem S2048x1152 .bf16) (harg8 : arg8.IsWhole) (arg9 : Memref sig .tc .vmem S256x1152 .bf16)
  (harg9 : arg9.IsWhole) (arg10 : Memref sig .tc .vmem S1x2048 .f32) (harg10 : arg10.IsWhole)
  (arg11 : Memref sig .tc .vmem S1x2048 .f32) (harg11 : arg11.IsWhole) (arg12 : Memref sig .tc .vmem S2048x1152 .f32)
  (harg12 : arg12.IsWhole)
variable (hc0 : ¬cond0_0 i) (hc1 : ¬cond0_1 i)
variable (x0 : Vec F S1x1 .f32) (x1 : Vec F S1x1 .f32) (x2 : Vec F S2048x1152 .fp8e4m3) (x3 : Vec F S1x2048 .f32)
  (x4 : Vec F S256x1152 .fp8e4m3) (x5 : Vec F S256x1 .f32) (xo6 : Vec F S1x2048 .f32) (xo9 : Vec F S1x2048 .f32)
  (xo10 : Vec F S1x2048 .f32) (xs0 : Vec F S2048x1152 .f32)

/-- The block of the gradient of `y` the point writes: the sum of the eight chunks' shares, rounded. -/
theorem outB_8 :
    out0_B_8 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 =
      View.canon [⟨Rect.unit ![0, 0] ![256, 1152] inb_S256x1152_S256x1152_0_0, truncf .bf16 (dySum i x0 x1 x2 x3 x4 x5 7) bitsLt_bf16_f32⟩] := by
  have h : (kernelRun0_B c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.1 =
      [⟨Rect.unit ![0, 0] ![256, 1152] inb_S256x1152_S256x1152_0_0, truncf .bf16 (dySum i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5)) 7) bitsLt_bf16_f32⟩] := rfl
  unfold out0_B_8
  rw [h, View.read_writes_junk_eq_canon]
  simp only [harg1.read_unread, harg2.read_unread, harg3.read_unread, harg4.read_unread, harg5.read_unread, harg6.read_unread]

/-- The loss row after the point: chunk by chunk. -/
theorem outB_6 :
    out0_B_6 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores rowBox
        (lossStep i x0 x1 x2 x3 x4 x5) xo6 8) := by
  have h : (kernelRun0_B c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).1 =
      stores rowBox
        (lossStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg7.view.read (Elt F) (harg7.unread xo6)) 8 := rfl
  unfold out0_B_6
  rw [h, View.read_writes_junk_eq_canon]
  simp only [harg1.read_unread, harg2.read_unread, harg3.read_unread, harg4.read_unread, harg5.read_unread, harg6.read_unread, harg7.read_unread]

/-- The temperature gradient row after the point: chunk by chunk. -/
theorem outB_9 :
    out0_B_9 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores rowBox
        (dltStep i x0 x1 x2 x3 x4 x5) xo9 8) := by
  have h : (kernelRun0_B c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.2.1 =
      stores rowBox
        (dltStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg10.view.read (Elt F) (harg10.unread xo9)) 8 := rfl
  unfold out0_B_9
  rw [h, View.read_writes_junk_eq_canon]
  simp only [harg1.read_unread, harg2.read_unread, harg3.read_unread, harg4.read_unread, harg5.read_unread, harg6.read_unread, harg10.read_unread]

/-- The bias gradient row after the point: chunk by chunk. -/
theorem outB_10 :
    out0_B_10 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores rowBox
        (dbStep i x0 x1 x2 x3 x4 x5) xo10 8) := by
  have h : (kernelRun0_B c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.2.2.1 =
      stores rowBox
        (dbStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg11.view.read (Elt F) (harg11.unread xo10)) 8 := rfl
  unfold out0_B_10
  rw [h, View.read_writes_junk_eq_canon]
  simp only [harg1.read_unread, harg2.read_unread, harg3.read_unread, harg4.read_unread, harg5.read_unread, harg6.read_unread, harg11.read_unread]

/-- The accumulator of the gradient of `x` after the point: chunk by chunk. -/
theorem soutB_0 :
    sout0_B_0 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores matBox
        (dxStep i x0 x1 x2 x3 x4 x5) xs0 8) := by
  have h : (kernelRun0_B c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.2.2.2.1 =
      stores matBox
        (dxStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg12.view.read (Elt F) (harg12.unread xs0)) 8 := rfl
  unfold sout0_B_0
  rw [h, View.read_writes_junk_eq_canon]
  simp only [harg1.read_unread, harg2.read_unread, harg3.read_unread, harg4.read_unread, harg5.read_unread, harg6.read_unread, harg12.read_unread]

end Cert.KernelIdeal.Hand

end
-- ==== Proof.RunC.lean ====
/- What the body leaves at the last grid point, chunk by chunk; the gradient of `x` is written back there. -/
module

public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]
variable (c : Dev nD) (i : grid0.Coords) (arg1 : Memref sig .tc .smem S1x1 .f32) (harg1 : arg1.IsWhole)
  (arg2 : Memref sig .tc .smem S1x1 .f32) (harg2 : arg2.IsWhole) (arg3 : Memref sig .tc .vmem S2048x1152 .fp8e4m3)
  (harg3 : arg3.IsWhole) (arg4 : Memref sig .tc .vmem S1x2048 .f32) (harg4 : arg4.IsWhole)
  (arg5 : Memref sig .tc .vmem S256x1152 .fp8e4m3) (harg5 : arg5.IsWhole) (arg6 : Memref sig .tc .vmem S256x1 .f32)
  (harg6 : arg6.IsWhole) (arg7 : Memref sig .tc .vmem S1x2048 .f32) (harg7 : arg7.IsWhole)
  (arg8 : Memref sig .tc .vmem S2048x1152 .bf16) (harg8 : arg8.IsWhole) (arg9 : Memref sig .tc .vmem S256x1152 .bf16)
  (harg9 : arg9.IsWhole) (arg10 : Memref sig .tc .vmem S1x2048 .f32) (harg10 : arg10.IsWhole)
  (arg11 : Memref sig .tc .vmem S1x2048 .f32) (harg11 : arg11.IsWhole) (arg12 : Memref sig .tc .vmem S2048x1152 .f32)
  (harg12 : arg12.IsWhole)
variable (hc0 : ¬cond0_0 i) (hc1 : cond0_1 i)
variable (x0 : Vec F S1x1 .f32) (x1 : Vec F S1x1 .f32) (x2 : Vec F S2048x1152 .fp8e4m3) (x3 : Vec F S1x2048 .f32)
  (x4 : Vec F S256x1152 .fp8e4m3) (x5 : Vec F S256x1 .f32) (xo6 : Vec F S1x2048 .f32) (xo9 : Vec F S1x2048 .f32)
  (xo10 : Vec F S1x2048 .f32) (xs0 : Vec F S2048x1152 .f32)

/-- The block of the gradient of `y` the point writes: the sum of the eight chunks' shares, rounded. -/
theorem outC_8 :
    out0_C_8 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 =
      View.canon [⟨Rect.unit ![0, 0] ![256, 1152] inb_S256x1152_S256x1152_0_0, truncf .bf16 (dySum i x0 x1 x2 x3 x4 x5 7) bitsLt_bf16_f32⟩] := by
  have h : (kernelRun0_C c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.1 =
      [⟨Rect.unit ![0, 0] ![256, 1152] inb_S256x1152_S256x1152_0_0, truncf .bf16 (dySum i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5)) 7) bitsLt_bf16_f32⟩] := rfl
  unfold out0_C_8
  rw [h, View.read_writes_junk_eq_canon]
  simp only [harg1.read_unread, harg2.read_unread, harg3.read_unread, harg4.read_unread, harg5.read_unread, harg6.read_unread]

/-- The loss row after the point: chunk by chunk. -/
theorem outC_6 :
    out0_C_6 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores rowBox
        (lossStep i x0 x1 x2 x3 x4 x5) xo6 8) := by
  have h : (kernelRun0_C c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).1 =
      stores rowBox
        (lossStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg7.view.read (Elt F) (harg7.unread xo6)) 8 := rfl
  unfold out0_C_6
  rw [h, View.read_writes_junk_eq_canon]
  simp only [harg1.read_unread, harg2.read_unread, harg3.read_unread, harg4.read_unread, harg5.read_unread, harg6.read_unread, harg7.read_unread]

/-- The temperature gradient row after the point: chunk by chunk. -/
theorem outC_9 :
    out0_C_9 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores rowBox
        (dltStep i x0 x1 x2 x3 x4 x5) xo9 8) := by
  have h : (kernelRun0_C c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.2.1 =
      stores rowBox
        (dltStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg10.view.read (Elt F) (harg10.unread xo9)) 8 := rfl
  unfold out0_C_9
  rw [h, View.read_writes_junk_eq_canon]
  simp only [harg1.read_unread, harg2.read_unread, harg3.read_unread, harg4.read_unread, harg5.read_unread, harg6.read_unread, harg10.read_unread]

/-- The bias gradient row after the point: chunk by chunk. -/
theorem outC_10 :
    out0_C_10 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores rowBox
        (dbStep i x0 x1 x2 x3 x4 x5) xo10 8) := by
  have h : (kernelRun0_C c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.2.2.1 =
      stores rowBox
        (dbStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg11.view.read (Elt F) (harg11.unread xo10)) 8 := rfl
  unfold out0_C_10
  rw [h, View.read_writes_junk_eq_canon]
  simp only [harg1.read_unread, harg2.read_unread, harg3.read_unread, harg4.read_unread, harg5.read_unread, harg6.read_unread, harg11.read_unread]

/-- The accumulator of the gradient of `x` after the point: chunk by chunk. -/
theorem soutC_0 :
    sout0_C_0 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 = View.canon (stores matBox
        (dxStep i x0 x1 x2 x3 x4 x5) xs0 8) := by
  have h : (kernelRun0_C c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.2.2.2.2.1 =
      stores matBox
        (dxStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5))) (arg12.view.read (Elt F) (harg12.unread xs0)) 8 := rfl
  unfold sout0_C_0
  rw [h, View.read_writes_junk_eq_canon]
  simp only [harg1.read_unread, harg2.read_unread, harg3.read_unread, harg4.read_unread, harg5.read_unread, harg6.read_unread, harg12.read_unread]

/-- The gradient of `x` written back: the accumulator as the point leaves it, rounded. -/
theorem outC_7 :
    out0_C_7 c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0 =
      View.canon [⟨Rect.unit ![0, 0] ![2048, 1152] inb_S2048x1152_S2048x1152_0_0,
        k0_pay3 (readWhole (View.canon (stores matBox (dxStep i x0 x1 x2 x3 x4 x5) xs0 8)))⟩] := by
  have h : (kernelRun0_C c i arg1 harg1 arg2 harg2 arg3 harg3 arg4 harg4 arg5 harg5 arg6 harg6 arg7 harg7 arg8 harg8 arg9 harg9 arg10 harg10
      arg11 harg11 arg12 harg12 hc0 hc1 x0 x1 x2 x3 x4 x5 xo6 xo9 xo10 xs0).2.1 =
      [⟨Rect.unit ![0, 0] ![2048, 1152] inb_S2048x1152_S2048x1152_0_0,
        k0_pay3 (arg12.view.readCov (stores matBox (dxStep i (arg1.view.read (Elt F) (harg1.unread x0)) (arg2.view.read (Elt F) (harg2.unread x1)) (arg3.view.read (Elt F) (harg3.unread x2))
        (arg4.view.read (Elt F) (harg4.unread x3)) (arg5.view.read (Elt F) (harg5.unread x4)) (arg6.view.read (Elt F) (harg6.unread x5)))
          (arg12.view.read (Elt F) (harg12.unread xs0)) 8) wholeBox.toLoadRect)⟩] := rfl
  unfold out0_C_7
  rw [h, View.read_writes_junk_eq_canon, View.readCov_eq_canon']
  simp only [harg1.read_unread, harg2.read_unread, harg3.read_unread, harg4.read_unread, harg5.read_unread, harg6.read_unread, harg12.read_unread]
  rfl

end Cert.KernelIdeal.Hand

end
-- ==== Proof.Points.lean ====
/- The accumulators after a grid point, as stores chunk by chunk: over a fill at the first point, over what the point
   before left at the later ones. -/
module

public import proofs.«01_k».proof.Proof.RunA
public import proofs.«01_k».proof.Proof.RunB
public import proofs.«01_k».proof.Proof.RunC

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-- The offset of a store of a whole buffer. -/
theorem off_zero : (![0, 0] : Fin 2 → ℕ) = fun _ => 0 := by decide

section
variable (p : Vec F S1x2048 .f32)
/-- One store of a whole row leaves it. -/
theorem canon_row :
    View.canon [(⟨Rect.unit ![0, 0] S1x2048.size inb_S1x2048_S1x2048_0_0, p⟩ : View.Piece (Elt F) S1x2048 .f32)] = p :=
  View.canon_unit_zero (S := S1x2048) off_zero inb_S1x2048_S1x2048_0_0 p
end
section
variable {e : EltTy} (p : Vec F S2048x1152 e)
/-- One store of a whole matrix leaves it. -/
theorem canon_mat :
    View.canon [(⟨Rect.unit ![0, 0] S2048x1152.size inb_S2048x1152_S2048x1152_0_0, p⟩ : View.Piece (Elt F) S2048x1152 e)] = p :=
  View.canon_unit_zero (S := S2048x1152) off_zero inb_S2048x1152_S2048x1152_0_0 p
end
section
variable (p : Vec F S256x1152 .bf16)
/-- One store of a whole block leaves it. -/
theorem canon_blk :
    View.canon [(⟨Rect.unit ![0, 0] S256x1152.size inb_S256x1152_S256x1152_0_0, p⟩ : View.Piece (Elt F) S256x1152 .bf16)] = p :=
  View.canon_unit_zero (S := S256x1152) off_zero inb_S256x1152_S256x1152_0_0 p
end

/-- the fill of a row, and of the matrix, at the first point -/
abbrev rowFill (p : Vec F S1x2048 .f32) : View.Piece (Elt F) S1x2048 .f32 := ⟨Rect.unit ![0, 0] ![1, 2048] inb_S1x2048_S1x2048_0_0, p⟩
abbrev matFill (p : Vec F S2048x1152 .f32) : View.Piece (Elt F) S2048x1152 .f32 :=
  ⟨Rect.unit ![0, 0] ![2048, 1152] inb_S2048x1152_S2048x1152_0_0, p⟩

/-- The same of the fills. -/
theorem canon_rowFill (p : Vec F S1x2048 .f32) : View.canon [(rowFill p : View.Piece (Elt F) S1x2048 .f32)] = p := canon_row p
theorem canon_matFill (p : Vec F S2048x1152 .f32) : View.canon [(matFill p : View.Piece (Elt F) S2048x1152 .f32)] = p := canon_mat p

variable (m : (ℓ : Loc nD τ sig) → Buf (Elt F) ℓ) (c : Dev nD) (t : Fin cfg0.N)

/-- what the point before left -/
abbrev before := outsAt0 m c (t.val - 1) (Nat.lt_of_le_of_lt (Nat.sub_le _ _) t.isLt)

section
variable (h0 : t.val % 8 = 0) (h1 : ¬t.val % 8 = 7)
include h0 h1
/-- The loss row after the first point: the stores over the fill. -/
theorem first_loss : (outsAt0 m c t.val t.isLt).1 = View.canon (storesOver (ms0_6 t).view (rowFill k0_pay7) rowBox
    (lossStep (grid0.coords t) (iblk m c 0 t) (iblk m c 1 t) (iblk m c 2 t) (iblk m c 3 t) (iblk m c 4 t) (iblk m c 5 t)) 8) := by
  rw [outsAt0_A m c t h0 h1]
  have h := outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  dsimp only
  exact h

/-- The temperature gradient row after the first point: the stores over the fill. -/
theorem first_dlt : (outsAt0 m c t.val t.isLt).2.2.2.1 = View.canon (storesOver (ms0_9 t).view (rowFill k0_pay8) rowBox
    (dltStep (grid0.coords t) (iblk m c 0 t) (iblk m c 1 t) (iblk m c 2 t) (iblk m c 3 t) (iblk m c 4 t) (iblk m c 5 t)) 8) := by
  rw [outsAt0_A m c t h0 h1]
  have h := outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  dsimp only
  exact h

/-- The bias gradient row after the first point: the stores over the fill. -/
theorem first_db : (outsAt0 m c t.val t.isLt).2.2.2.2.1 = View.canon (storesOver (ms0_10 t).view (rowFill k0_pay9) rowBox
    (dbStep (grid0.coords t) (iblk m c 0 t) (iblk m c 1 t) (iblk m c 2 t) (iblk m c 3 t) (iblk m c 4 t) (iblk m c 5 t)) 8) := by
  rw [outsAt0_A m c t h0 h1]
  have h := outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  dsimp only
  exact h

/-- The accumulator of the gradient of `x` after the first point: the stores over the fill. -/
theorem first_dx : (outsAt0 m c t.val t.isLt).2.2.2.2.2 = View.canon (storesOver scM0_0.view (matFill k0_pay6) matBox
    (dxStep (grid0.coords t) (iblk m c 0 t) (iblk m c 1 t) (iblk m c 2 t) (iblk m c 3 t) (iblk m c 4 t) (iblk m c 5 t)) 8) := by
  rw [outsAt0_A m c t h0 h1]
  have h := soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  dsimp only
  exact h

/-- The block of the gradient of `y` after the point: the chunks' shares added up, rounded. -/
theorem first_dy : (outsAt0 m c t.val t.isLt).2.2.1 = truncf .bf16 (dySum (grid0.coords t) (iblk m c 0 t) (iblk m c 1 t) (iblk m c 2 t) (iblk m c 3 t) (iblk m c 4 t) (iblk m c 5 t) 7) bitsLt_bf16_f32 := by
  rw [outsAt0_A m c t h0 h1]
  have h := (outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t))
  dsimp only
  rw [h]
  exact canon_blk _

end

section
variable (h0 : ¬t.val % 8 = 0) (h1 : ¬t.val % 8 = 7)
include h0 h1
/-- The loss row after a point between first and last: the stores over what the point before left. -/
theorem mid_loss : (outsAt0 m c t.val t.isLt).1 = View.canon (stores rowBox
    (lossStep (grid0.coords t) (iblk m c 0 t) (iblk m c 1 t) (iblk m c 2 t) (iblk m c 3 t) (iblk m c 4 t) (iblk m c 5 t)) (before m c t).1 8) := by
  rw [outsAt0_B m c t h0 h1]
  have h := outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The temperature gradient row after a point between first and last: the stores over what the point before left. -/
theorem mid_dlt : (outsAt0 m c t.val t.isLt).2.2.2.1 = View.canon (stores rowBox
    (dltStep (grid0.coords t) (iblk m c 0 t) (iblk m c 1 t) (iblk m c 2 t) (iblk m c 3 t) (iblk m c 4 t) (iblk m c 5 t)) (before m c t).2.2.2.1 8) := by
  rw [outsAt0_B m c t h0 h1]
  have h := outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The bias gradient row after a point between first and last: the stores over what the point before left. -/
theorem mid_db : (outsAt0 m c t.val t.isLt).2.2.2.2.1 = View.canon (stores rowBox
    (dbStep (grid0.coords t) (iblk m c 0 t) (iblk m c 1 t) (iblk m c 2 t) (iblk m c 3 t) (iblk m c 4 t) (iblk m c 5 t)) (before m c t).2.2.2.2.1 8) := by
  rw [outsAt0_B m c t h0 h1]
  have h := outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The accumulator of the gradient of `x` after a point between first and last: the stores over what the point before left. -/
theorem mid_dx : (outsAt0 m c t.val t.isLt).2.2.2.2.2 = View.canon (stores matBox
    (dxStep (grid0.coords t) (iblk m c 0 t) (iblk m c 1 t) (iblk m c 2 t) (iblk m c 3 t) (iblk m c 4 t) (iblk m c 5 t)) (before m c t).2.2.2.2.2 8) := by
  rw [outsAt0_B m c t h0 h1]
  have h := soutB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The block of the gradient of `y` after the point: the chunks' shares added up, rounded. -/
theorem mid_dy : (outsAt0 m c t.val t.isLt).2.2.1 = truncf .bf16 (dySum (grid0.coords t) (iblk m c 0 t) (iblk m c 1 t) (iblk m c 2 t) (iblk m c 3 t) (iblk m c 4 t) (iblk m c 5 t) 7) bitsLt_bf16_f32 := by
  rw [outsAt0_B m c t h0 h1]
  have h := (outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
    (before m c t).1 (before m c t).2.2.2.1 (before m c t).2.2.2.2.1 (before m c t).2.2.2.2.2)
  dsimp only
  rw [h]
  exact canon_blk _

end

section
variable (h0 : ¬t.val % 8 = 0) (h1 : t.val % 8 = 7)
include h0 h1
/-- The loss row after the last point: the stores over what the point before left. -/
theorem last_loss : (outsAt0 m c t.val t.isLt).1 = View.canon (stores rowBox
    (lossStep (grid0.coords t) (iblk m c 0 t) (iblk m c 1 t) (iblk m c 2 t) (iblk m c 3 t) (iblk m c 4 t) (iblk m c 5 t)) (before m c t).1 8) := by
  rw [outsAt0_C m c t h0 h1]
  have h := outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The temperature gradient row after the last point: the stores over what the point before left. -/
theorem last_dlt : (outsAt0 m c t.val t.isLt).2.2.2.1 = View.canon (stores rowBox
    (dltStep (grid0.coords t) (iblk m c 0 t) (iblk m c 1 t) (iblk m c 2 t) (iblk m c 3 t) (iblk m c 4 t) (iblk m c 5 t)) (before m c t).2.2.2.1 8) := by
  rw [outsAt0_C m c t h0 h1]
  have h := outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The bias gradient row after the last point: the stores over what the point before left. -/
theorem last_db : (outsAt0 m c t.val t.isLt).2.2.2.2.1 = View.canon (stores rowBox
    (dbStep (grid0.coords t) (iblk m c 0 t) (iblk m c 1 t) (iblk m c 2 t) (iblk m c 3 t) (iblk m c 4 t) (iblk m c 5 t)) (before m c t).2.2.2.2.1 8) := by
  rw [outsAt0_C m c t h0 h1]
  have h := outC_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The accumulator of the gradient of `x` after the last point: the stores over what the point before left. -/
theorem last_dx : (outsAt0 m c t.val t.isLt).2.2.2.2.2 = View.canon (stores matBox
    (dxStep (grid0.coords t) (iblk m c 0 t) (iblk m c 1 t) (iblk m c 2 t) (iblk m c 3 t) (iblk m c 4 t) (iblk m c 5 t)) (before m c t).2.2.2.2.2 8) := by
  rw [outsAt0_C m c t h0 h1]
  have h := soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (before m c t).1 (before m c t).2.2.2.1 (before m c t).2.2.2.2.1 (before m c t).2.2.2.2.2
  dsimp only
  exact h

/-- The block of the gradient of `y` after the point: the chunks' shares added up, rounded. -/
theorem last_dy : (outsAt0 m c t.val t.isLt).2.2.1 = truncf .bf16 (dySum (grid0.coords t) (iblk m c 0 t) (iblk m c 1 t) (iblk m c 2 t) (iblk m c 3 t) (iblk m c 4 t) (iblk m c 5 t) 7) bitsLt_bf16_f32 := by
  rw [outsAt0_C m c t h0 h1]
  have h := (outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (before m c t).1 (before m c t).2.2.2.1 (before m c t).2.2.2.2.1 (before m c t).2.2.2.2.2)
  dsimp only
  rw [h]
  exact canon_blk _

/-- The gradient of `x` written out at the last point is its accumulator, rounded. -/
theorem last_write : (outsAt0 m c t.val t.isLt).2.1 = k0_pay3 (readWhole (outsAt0 m c t.val t.isLt).2.2.2.2.2) := by
  rw [last_dx m c t h0 h1, outsAt0_C m c t h0 h1]
  have h := (outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (before m c t).1 (before m c t).2.2.2.1 (before m c t).2.2.2.2.1 (before m c t).2.2.2.2.2)
  dsimp only
  rw [h]
  exact canon_mat _

end

section
variable (h0 : ¬t.val % 8 = 0)
include h0
/-- The same past the first point, the last one or not. -/
theorem later_loss : (outsAt0 m c t.val t.isLt).1 = View.canon (stores rowBox
    (lossStep (grid0.coords t) (iblk m c 0 t) (iblk m c 1 t) (iblk m c 2 t) (iblk m c 3 t) (iblk m c 4 t) (iblk m c 5 t)) (before m c t).1 8) :=
  if h1 : t.val % 8 = 7 then last_loss m c t h0 h1 else mid_loss m c t h0 h1

/-- The same past the first point, the last one or not. -/
theorem later_dlt : (outsAt0 m c t.val t.isLt).2.2.2.1 = View.canon (stores rowBox
    (dltStep (grid0.coords t) (iblk m c 0 t) (iblk m c 1 t) (iblk m c 2 t) (iblk m c 3 t) (iblk m c 4 t) (iblk m c 5 t)) (before m c t).2.2.2.1 8) :=
  if h1 : t.val % 8 = 7 then last_dlt m c t h0 h1 else mid_dlt m c t h0 h1

/-- The same past the first point, the last one or not. -/
theorem later_db : (outsAt0 m c t.val t.isLt).2.2.2.2.1 = View.canon (stores rowBox
    (dbStep (grid0.coords t) (iblk m c 0 t) (iblk m c 1 t) (iblk m c 2 t) (iblk m c 3 t) (iblk m c 4 t) (iblk m c 5 t)) (before m c t).2.2.2.2.1 8) :=
  if h1 : t.val % 8 = 7 then last_db m c t h0 h1 else mid_db m c t h0 h1

/-- The same past the first point, the last one or not. -/
theorem later_dx : (outsAt0 m c t.val t.isLt).2.2.2.2.2 = View.canon (stores matBox
    (dxStep (grid0.coords t) (iblk m c 0 t) (iblk m c 1 t) (iblk m c 2 t) (iblk m c 3 t) (iblk m c 4 t) (iblk m c 5 t)) (before m c t).2.2.2.2.2 8) :=
  if h1 : t.val % 8 = 7 then last_dx m c t h0 h1 else mid_dx m c t h0 h1

end

/-- Every point writes its block of the gradient of `y`. -/
theorem any_dy : (outsAt0 m c t.val t.isLt).2.2.1 = truncf .bf16 (dySum (grid0.coords t) (iblk m c 0 t) (iblk m c 1 t) (iblk m c 2 t) (iblk m c 3 t) (iblk m c 4 t) (iblk m c 5 t) 7) bitsLt_bf16_f32 :=
  if h0 : t.val % 8 = 0 then first_dy m c t h0 (by omega) else
  if h1 : t.val % 8 = 7 then last_dy m c t h0 h1 else mid_dy m c t h0 h1

end Cert.KernelIdeal.Hand

end
-- ==== Proof.Spec.lean ====
/- The arguments as tables of extended reals: the rows of the two operand batches, their scales, the two scalars. -/
module

public import Idealize.ShloMosaic.Lib.Pointwise

@[expose] public section

set_option maxRecDepth 16384

noncomputable section

namespace Cert.Spec

open Idealize.ShloMosaic

/-- row `i`, column `k` of a batch of two shards of 1024 rows -/
def row (A : (⟨3, ![2, 1024, 1152]⟩ : Shape).Idx → EReal) (i : Fin 2048) (k : Fin 1152) : EReal :=
  A (ix3 ⟨i.val / 1024, by omega⟩ ⟨i.val % 1024, by omega⟩ k)

/-- entry `i` of the batch's scales -/
def scale (B : (⟨2, ![2, 1024]⟩ : Shape).Idx → EReal) (i : Fin 2048) : EReal :=
  B (ix2 ⟨i.val / 1024, by omega⟩ ⟨i.val % 1024, by omega⟩)

/-- the value of a scalar argument -/
def scalar (s : (⟨0, ![]⟩ : Shape).Idx → EReal) : EReal := s (fun a => a.elim0)

/-! The sigmoid loss and its gradients, over tables `X`, `Y` of rows, `Xs`, `Ys` of their scales, a temperature `T` (its
    logarithm) and a bias `B`. Row `i` of `x` and row `j` of `y` are a pair; the pairs with `i = j` are the matching ones. -/

section
variable (X Y : Fin 2048 → Fin 1152 → EReal) (Xs Ys : Fin 2048 → EReal) (T B : EReal)

/-- one part in 2048, the weight of a row in the mean -/
def part : EReal := ((1 / 2048 : ℝ) : EReal)

/-- the scaled product of rows `i` and `j` -/
def prod (i j : Fin 2048) : EReal := Ideal.exp T * ((∑ k, X i k * Y j k) * Xs i * Ys j)

/-- its logit -/
def logit (i j : Fin 2048) : EReal := prod X Y Xs Ys T i j + B

/-- the loss's argument: the logit, negated for a matching pair -/
def margin (i j : Fin 2048) : EReal :=
  if i = j then 0 - logit X Y Xs Ys T B i j else logit X Y Xs Ys T B i j

/-- `log (1 + exp m)`, as a stable sum -/
def softplus (m : EReal) : EReal := max 0 m + Ideal.log1p (Ideal.exp (0 - FloatOps.absf (F := Ideal) (φ := .f32) (0 - m)))

/-- the derivative of the pair's loss by its logit -/
def slope (i j : Fin 2048) : EReal :=
  if i = j then 0 - Ideal.logistic (margin X Y Xs Ys T B i j) else Ideal.logistic (margin X Y Xs Ys T B i j)

/-- what the pair adds to the loss row -/
def lossTerm (i j : Fin 2048) : EReal := softplus (margin X Y Xs Ys T B i j) * part
/-- what it adds to the bias gradient -/
def dbTerm (i j : Fin 2048) : EReal := slope X Y Xs Ys T B i j * part
/-- what it adds to the temperature gradient -/
def dltTerm (i j : Fin 2048) : EReal := slope X Y Xs Ys T B i j * part * prod X Y Xs Ys T i j
/-- what it adds to column `k` of the gradient of row `i` of `x` -/
def dxTerm (k : Fin 1152) (i j : Fin 2048) : EReal :=
  Ideal.exp T * (slope X Y Xs Ys T B i j * part) * Ys j * Y j k
/-- what it adds to column `k` of the gradient of row `j` of `y` -/
def dyTerm (k : Fin 1152) (i j : Fin 2048) : EReal :=
  Ideal.exp T * (slope X Y Xs Ys T B i j * part) * Xs i * X i k

end

end Cert.Spec

end
-- ==== Proof.Alg.lean ====
/- The equations of extended reals the two programs differ by: base two against base `e`, a division by 2048 against a
   product, a product with a positive real against the same product in each summand. -/
module

public import proofs.«01_k».proof.Proof.Spec

@[expose] public section

noncomputable section

namespace Cert.Spec

open Idealize.ShloMosaic

/-- the base-two logarithm of `e` -/
def lb : EReal := (((Real.log 2)⁻¹ : ℝ) : EReal)
/-- the natural logarithm of two -/
def ln : EReal := ((Real.log 2 : ℝ) : EReal)

theorem log_pos : 0 < Real.log 2 := Real.log_pos (by norm_num)

theorem lb_mul_ln : lb * ln = 1 := by
  rw [lb, ln, ← EReal.coe_mul, inv_mul_cancel₀ log_pos.ne', EReal.coe_one]

/-- A finite product with a nonnegative real goes into a sum. -/
theorem sum_mul {ι : Type} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih, mul_comm, mul_comm (f a), mul_comm (∑ x ∈ s, f x)]
    exact EReal.left_distrib_of_nonneg_of_ne_top (by exact_mod_cast hc) (EReal.coe_ne_top c) _ _

/-- the printed 2048 -/
theorem ofBits_2048 : Ideal.ofBits FTy.f32 1157627904#32 = ((2048 : ℝ) : EReal) := by
  simp [Ideal.ofBits, Ideal.ieee, -EReal.coe_mul]
  norm_num

/-- the printed -1 -/
theorem ofBits_neg_one : Ideal.ofBits FTy.f32 3212836864#32 = -1 := by
  simp [Ideal.ofBits, Ideal.ieee, -EReal.coe_mul]
  norm_num

/-- A division by 2048 is the product with one part in 2048. -/
theorem div_2048 (x : EReal) : Ideal.div x (Ideal.ofBits FTy.f32 1157627904#32) = x * part := by
  rw [ofBits_2048, Ideal.div, if_neg (by norm_num), part, ← EReal.coe_inv, one_div]

/-- One part in 2048 of a sum, part by part. -/
theorem sum_part {ι : Type} (s : Finset ι) (f : ι → EReal) : (∑ x ∈ s, f x) * part = ∑ x ∈ s, f x * part :=
  sum_mul s f _ (by norm_num)

theorem zero_sub_mul (a b : EReal) : a * (0 - b) = 0 - a * b := by
  rw [zero_sub, zero_sub, mul_neg]

/-- The magnitude does not see a sign. -/
theorem absf_neg (m : EReal) : FloatOps.absf (F := Ideal) (φ := .f32) (0 - m) = FloatOps.absf (F := Ideal) (φ := .f32) m := by
  show max (0 - m) (-(0 - m)) = max m (-m)
  rw [zero_sub, neg_neg, max_comm]

theorem coe_max (a b : ℝ) : ((max a b : ℝ) : EReal) = max (a : EReal) b := EReal.coe_strictMono.monotone.map_max

/-- The power of two of a scaled magnitude is the exponential of the magnitude. -/
theorem exp2_scaled (m : EReal) : Ideal.exp2 (0 - FloatOps.absf (F := Ideal) (φ := .f32) (lb * m)) =
    Ideal.exp (0 - FloatOps.absf (F := Ideal) (φ := .f32) m) := by
  show Ideal.exp2 (0 - max (lb * m) (-(lb * m))) = Ideal.exp (0 - max m (-m))
  have hpos : 0 < (Real.log 2)⁻¹ := inv_pos.mpr log_pos
  induction m with
  | bot => rw [lb, EReal.coe_mul_bot_of_pos hpos]; simp
  | top => rw [lb, EReal.coe_mul_top_of_pos hpos]; simp
  | coe r =>
    have h1 : (0 : EReal) - max (lb * r) (-(lb * r)) = ((-((Real.log 2)⁻¹ * |r|) : ℝ) : EReal) := by
      rw [lb, zero_sub, ← EReal.coe_mul, ← EReal.coe_neg, ← coe_max, ← EReal.coe_neg]
      show ((-|(Real.log 2)⁻¹ * r| : ℝ) : EReal) = _
      rw [abs_mul, abs_of_pos hpos]
    have h2 : (0 : EReal) - max (r : EReal) (-r) = ((-|r| : ℝ) : EReal) := by
      rw [zero_sub, ← EReal.coe_neg, ← coe_max, ← EReal.coe_neg]; rfl
    rw [h1, h2, Ideal.exp2_coe, Ideal.exp_coe]
    congr 1
    show (2 : ℝ) ^ (-((Real.log 2)⁻¹ * |r|)) = _
    rw [Real.rpow_def_of_pos (by norm_num)]
    congr 1
    field_simp

/-- The sign of a scaled number is the number's. -/
theorem scaled_nonneg (m : EReal) : 0 ≤ lb * m ↔ 0 ≤ m := by
  have hpos : 0 < (Real.log 2)⁻¹ := inv_pos.mpr log_pos
  induction m with
  | bot => rw [lb, EReal.coe_mul_bot_of_pos hpos]
  | top => rw [lb, EReal.coe_mul_top_of_pos hpos]
  | coe r =>
    rw [lb, ← EReal.coe_mul, EReal.coe_nonneg, EReal.coe_nonneg]
    exact mul_nonneg_iff_of_pos_left hpos

/-- The positive part of the scaled number, scaled back. -/
theorem max_scaled (m : EReal) : max (lb * m) 0 * ln = max 0 m := by
  by_cases h : 0 ≤ m
  · rw [max_eq_left ((scaled_nonneg m).2 h), max_eq_right h, mul_comm lb, mul_assoc, lb_mul_ln, mul_one]
  · rw [max_eq_right (le_of_lt (not_le.1 fun h' => h ((scaled_nonneg m).1 h'))), max_eq_left (le_of_not_ge h), zero_mul]

/-- The logistic by the exponential of minus the magnitude. -/
theorem logistic_by_abs (m : EReal) :
    Ideal.div (if 0 ≤ m then 1 else Ideal.exp (0 - FloatOps.absf (F := Ideal) (φ := .f32) m))
      (1 + Ideal.exp (0 - FloatOps.absf (F := Ideal) (φ := .f32) m)) = Ideal.logistic m := by
  show Ideal.div (if 0 ≤ m then 1 else Ideal.exp (0 - max m (-m))) (1 + Ideal.exp (0 - max m (-m))) =
    Ideal.div 1 (1 + Ideal.exp (-m))
  by_cases h : 0 ≤ m
  · have h' : -m ≤ m := le_trans (EReal.neg_le_zero.2 h) h
    rw [if_pos h, max_eq_left h', zero_sub]
  · have hm : m ≤ 0 := le_of_not_ge h
    have h' : m ≤ -m := le_trans hm (EReal.neg_nonneg.2 hm)
    rw [if_neg h, max_eq_right h', zero_sub, neg_neg]
    induction m with
    | bot =>
      have h1 : (1 : EReal) + ⊤ = ⊤ := EReal.add_top_of_ne_bot (EReal.coe_ne_bot 1)
      simp [Ideal.div, h1]
    | top => exact absurd le_top h
    | coe r =>
      have he := Real.exp_pos r
      have hne : (1 : ℝ) + Real.exp r ≠ 0 := by positivity
      have hne' : (1 : ℝ) + Real.exp (-r) ≠ 0 := by positivity
      rw [← EReal.coe_neg, Ideal.exp_coe, Ideal.exp_coe, ← EReal.coe_one, ← EReal.coe_add, ← EReal.coe_add,
        Ideal.div_coe hne, Ideal.div_coe hne', ← EReal.coe_mul, ← EReal.coe_mul, EReal.coe_eq_coe_iff]
      rw [Real.exp_neg]
      field_simp
      ring

/-- The logistic of a margin, from its base-two image. -/
theorem logistic_scaled (m : EReal) :
    Ideal.div (if 0 ≤ lb * m then 1 else Ideal.exp2 (0 - FloatOps.absf (F := Ideal) (φ := .f32) (lb * m)))
      (1 + Ideal.exp2 (0 - FloatOps.absf (F := Ideal) (φ := .f32) (lb * m))) = Ideal.logistic m := by
  rw [exp2_scaled, ← logistic_by_abs]
  simp only [scaled_nonneg]

/-- The softplus of a margin, from its base-two image. -/
theorem softplus_scaled (m : EReal) :
    max (lb * m) 0 * ln + Ideal.log1p (Ideal.exp2 (0 - FloatOps.absf (F := Ideal) (φ := .f32) (lb * m))) = softplus m := by
  rw [exp2_scaled, max_scaled, softplus, absf_neg]

end Cert.Spec

end
-- ==== Proof.Cell.lean ====
/- One tile of the kernel: 256 rows of `y` against 256 rows of `x`. What each quantity of the tile is, entry by entry, in
   terms of the pair's loss and gradient terms. -/
module

public import proofs.«01_k».proof.Proof.Tile
public import proofs.«01_k».proof.Proof.Alg
public import Idealize.ShloMosaic.Lib.Pointwise

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

/-- entry `r` of tile `n` of 2048 entries -/
def at8 (n : ℕ) (r : Fin 256) : Fin 2048 := ⟨256 * (n % 8) + r.val, by omega⟩

theorem log2e_val : Named.named (F := Ideal) (φ := .f32) κ "log2e" 1069066811#32 = lb :=
  IdealRules.named_const.ideal_named_scalar _ _ _ _ rfl
theorem ln2_val : Named.named (F := Ideal) (φ := .f32) κ "ln2" 1060205080#32 = ln :=
  IdealRules.named_const.ideal_named_scalar _ _ _ _ rfl
theorem ln2_over_n_val : Named.named (F := Ideal) (φ := .f32) κ "ln2_over_n" 967930392#32 = ln * part :=
  (IdealRules.named_const.ideal_named_scalar _ _ _ _ rfl).trans (EReal.coe_mul _ _)

variable (g : grid0.Coords) (x0 x1 : Vec Ideal S1x1 .f32) (x2 : Vec Ideal S2048x1152 .fp8e4m3) (x3 : Vec Ideal S1x2048 .f32)
  (x4 : Vec Ideal S256x1152 .fp8e4m3) (x5 : Vec Ideal S256x1 .f32)
variable (X Y : Fin 2048 → Fin 1152 → EReal) (Xs Ys : Fin 2048 → EReal) (T B : EReal) (s : ℕ)

/-- the six blocks of grid point `s` hold the tables: `x` whole, `y` its tile `s` -/
structure Holds : Prop where
  hs : s < 8
  hg : (g 0).val = s
  h0 : x0 (ix2 0 0) = T
  h1 : x1 (ix2 0 0) = B
  h2 : ∀ i k, x2 (ix2 i k) = X i k
  h3 : ∀ i, x3 (ix2 0 i) = Xs i
  h4 : ∀ r k, x4 (ix2 r k) = Y (at8 s r) k
  h5 : ∀ r, x5 (ix2 r 0) = Ys (at8 s r)

/-- The word comparison of the tile's mask, on numbers: the row's and the column's place in the 2048 agree. -/
theorem mask_word (s n r q : ℕ) (hs : s < 8) (hn : n < 8) (hr : r < 256) (hq : q < 256) :
    IntOp.cmpi .eq (IntOp.addi (BitVec.ofNat 32 r) (Scalar.muli (Scalar.subi (BitVec.ofNat 32 s) (BitVec.ofNat 32 n)) 256#32))
      (BitVec.ofNat 32 q) = if 256 * n + q = 256 * s + r then 1#1 else 0#1 := by
  have e : BitVec.ofNat 32 r + (BitVec.ofNat 32 s - BitVec.ofNat 32 n) * 256#32 = BitVec.ofNat 32 q ↔ 256 * n + q = 256 * s + r := by
    constructor
    · intro h
      have := congrArg BitVec.toNat h
      simp only [BitVec.toNat_add, BitVec.toNat_mul, BitVec.toNat_sub, BitVec.toNat_ofNat] at this
      omega
    · intro h
      apply BitVec.eq_of_toNat_eq
      simp only [BitVec.toNat_add, BitVec.toNat_mul, BitVec.toNat_sub, BitVec.toNat_ofNat]
      omega
  show BitVec.ofBool (BitVec.ofNat 32 r + (BitVec.ofNat 32 s - BitVec.ofNat 32 n) * 256#32 == BitVec.ofNat 32 q) = _
  by_cases h : 256 * n + q = 256 * s + r
  · rw [if_pos h, e.2 h]; simp
  · rw [if_neg h, beq_eq_false_iff_ne.2 fun h' => h (e.1 h')]; rfl

variable {g x0 x1 x2 x3 x4 x5 X Y Xs Ys T B s} (H : Holds g x0 x1 x2 x3 x4 x5 X Y Xs Ys T B s) {n : ℕ} (hn : n < 8)
include H hn

/-- A choice by the mask is a choice by whether the pair matches. -/
theorem mask_at (r q : Fin 256) (a b : EReal) :
    Scalar.select (mask g n (ix2 r q)) a b = if at8 n q = at8 s r then a else b := by
  have h : mask g n (ix2 r q) = if at8 n q = at8 s r then 1#1 else 0#1 := by
    pointwise [mask]
    rw [H.hg, mask_word s n r q H.hs hn r.isLt q.isLt]
    refine if_congr ?_ rfl rfl
    rw [Fin.ext_iff]
    show _ ↔ 256 * (n % 8) + q.val = 256 * (s % 8) + r.val
    rw [Nat.mod_eq_of_lt hn, Nat.mod_eq_of_lt H.hs]
  rw [h]
  by_cases e : at8 n q = at8 s r
  · rw [if_pos e, if_pos e]; rfl
  · rw [if_neg e, if_neg e]; rfl

omit hn in
/-- The tile's scaled products are the pairs', in base two. -/
theorem ts_at (r q : Fin 256) : tsT x0 x2 x3 x4 x5 n (ix2 r q) = lb * prod X Y Xs Ys T (at8 n q) (at8 s r) := by
  pointwise [tsT, k0_pay14, k0_pay10, k0_pay12, k0_pay4, k0_pay11, k0_pay13, sc, yb, ysb, xb, xsb]
  simp only [H.h0, H.h2, H.h3, H.h4, H.h5, log2e_val]
  change (∑ k, Y (at8 s r) k * X (at8 n q) k) * (Ys (at8 s r) * (Ideal.exp T * lb)) * Xs (at8 n q) = _
  simp only [prod, mul_comm (Y _ _)]
  ac_rfl

/-- The tile's logits, the matching pairs' negated, are the margins in base two. -/
theorem u_at (r q : Fin 256) : uT g x0 x1 x2 x3 x4 x5 n (ix2 r q) = lb * margin X Y Xs Ys T B (at8 n q) (at8 s r) := by
  pointwise [uT, k0_pay5, sc]
  have h : tsT x0 x2 x3 x4 x5 n (ix2 r q) + x1 (ix2 0 0) * Named.named (F := Ideal) (φ := .f32) κ "log2e" 1069066811#32 =
      lb * logit X Y Xs Ys T B (at8 n q) (at8 s r) := by
    rw [ts_at H, H.h1, log2e_val, logit, mul_comm B]
    exact (EReal.left_distrib_of_nonneg_of_ne_top (EReal.coe_nonneg.2 (inv_pos.2 log_pos).le) (EReal.coe_ne_top _) _ _).symm
  rw [h, mask_at H hn, margin, ← zero_sub_mul]
  split <;> rfl

/-- The tile's logistic, negated where the pair matches, is the slope. -/
theorem sg_at (r q : Fin 256) : sgT g x0 x1 x2 x3 x4 x5 n (ix2 r q) = slope X Y Xs Ys T B (at8 n q) (at8 s r) := by
  pointwise [sgT, k0_pay19, k0_pay18]
  rw [mask_at H hn, u_at H hn]
  exact if_congr Iff.rfl (congrArg (0 - ·) (logistic_scaled _)) (logistic_scaled _)

/-- What the tile adds to the loss row. -/
theorem loss_at (old : Vec Ideal S1x256 .f32) (q : Fin 256) :
    lossStep g x0 x1 x2 x3 x4 x5 n old (ix2 0 q) =
      old (ix2 0 q) + ∑ r, lossTerm X Y Xs Ys T B (at8 n q) (at8 s r) := by
  pointwise [lossStep, k0_pay20, k0_pay18]
  simp only [u_at H hn, ln2_val, div_2048]
  rw [ln, sum_mul _ _ _ log_pos.le, ← Finset.sum_add_distrib, sum_part]
  exact congrArg (old (ix2 0 q) + ·) (Finset.sum_congr rfl fun r _ => congrArg (· * part) (softplus_scaled _))

/-- What it adds to the bias gradient. -/
theorem db_at (old : Vec Ideal S1x256 .f32) (q : Fin 256) :
    dbStep g x0 x1 x2 x3 x4 x5 n old (ix2 0 q) =
      old (ix2 0 q) + ∑ r, dbTerm X Y Xs Ys T B (at8 n q) (at8 s r) := by
  have h : dbStep g x0 x1 x2 x3 x4 x5 n old (ix2 0 q) = old (ix2 0 q) +
      Ideal.div (∑ r, sgT g x0 x1 x2 x3 x4 x5 n (ix2 r q)) (Ideal.ofBits FTy.f32 1157627904#32) := by
    pointwise [dbStep, k0_pay21]
    rfl
  rw [h, div_2048, sum_part]
  simp only [sg_at H hn]
  rfl

/-- What it adds to the temperature gradient. -/
theorem dlt_at (old : Vec Ideal S1x256 .f32) (q : Fin 256) :
    dltStep g x0 x1 x2 x3 x4 x5 n old (ix2 0 q) =
      old (ix2 0 q) + ∑ r, dltTerm X Y Xs Ys T B (at8 n q) (at8 s r) := by
  pointwise [dltStep, k0_pay22]
  simp only [sg_at H hn, ts_at H, ln2_over_n_val]
  rw [ln, part, ← EReal.coe_mul, sum_mul _ _ _ (mul_nonneg log_pos.le (by norm_num)), EReal.coe_mul]
  refine congrArg (old (ix2 0 q) + ·) (Finset.sum_congr rfl fun r _ => ?_)
  calc slope X Y Xs Ys T B (at8 n q) (at8 s r) * (lb * prod X Y Xs Ys T (at8 n q) (at8 s r)) * (ln * part)
      = (lb * ln) * (slope X Y Xs Ys T B (at8 n q) (at8 s r) * part * prod X Y Xs Ys T (at8 n q) (at8 s r)) := by ac_rfl
    _ = _ := by rw [lb_mul_ln, one_mul]; rfl

/-- What it adds to the gradient of its rows of `x`. -/
theorem dx_at (old : Vec Ideal S256x1152 .f32) (q : Fin 256) (k : Fin 1152) :
    dxStep g x0 x1 x2 x3 x4 x5 n old (ix2 q k) =
      old (ix2 q k) + ∑ r, dxTerm X Y Xs Ys T B k (at8 n q) (at8 s r) := by
  pointwise [dxStep, k0_pay23, k0_pay4, k0_pay10, k0_pay11, sc, yb, ysb]
  simp only [sg_at H hn, H.h0, H.h4, H.h5, div_2048]
  refine congrArg (old (ix2 q k) + ·) (Finset.sum_congr rfl fun r _ => ?_)
  simp only [dxTerm]
  ac_rfl

/-- Its share of the gradient of its rows of `y`. -/
theorem dy_at (r : Fin 256) (k : Fin 1152) :
    dyPart g x0 x1 x2 x3 x4 x5 n (ix2 r k) = ∑ q, dyTerm X Y Xs Ys T B k (at8 n q) (at8 s r) := by
  pointwise [dyPart, k0_pay24, k0_pay4, k0_pay12, k0_pay13, sc, xb, xsb]
  simp only [sg_at H hn, H.h0, H.h2, H.h3, div_2048]
  refine Finset.sum_congr rfl fun q _ => ?_
  simp only [dyTerm]
  change slope X Y Xs Ys T B (at8 n q) (at8 s r) * (Xs (at8 n q) * (Ideal.exp T * part)) * X (at8 n q) k = _
  ac_rfl

end Cert.KernelIdeal.Hand

end
-- ==== Proof.Boxes.lean ====
/- The eight chunks of a row or a matrix: they are apart, they cover it, and a sequence of stores that adds to each chunk
   adds to every entry. -/
module

public import proofs.«01_k».proof.Proof.Cell

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

/-- Every entry is one of a chunk's. -/
theorem at8_split (i : Fin 2048) : ∃ n, n < 8 ∧ ∃ q, i = at8 n q :=
  ⟨i.val / 256, by omega, ⟨i.val % 256, by omega⟩, Fin.ext (show i.val = 256 * (i.val / 256 % 8) + i.val % 256 by omega)⟩

theorem row_emb (n : ℕ) (q : Fin 256) : (rowBox n).emb (ix2 0 q) = ix2 0 (at8 n q) := by
  funext a
  apply Fin.ext
  match a with
  | ⟨0, _⟩ => rfl
  | ⟨1, _⟩ => show 256 * (n % 8) + 1 * q.val = _; rw [one_mul]; rfl

theorem mat_emb (n : ℕ) (q : Fin 256) (k : Fin 1152) : (matBox n).emb (ix2 q k) = ix2 (at8 n q) k := by
  funext a
  apply Fin.ext
  match a with
  | ⟨0, _⟩ => show 256 * (n % 8) + 1 * q.val = _; rw [one_mul]; rfl
  | ⟨1, _⟩ => show 0 + 1 * k.val = _; rw [one_mul, zero_add]; rfl

theorem rows_apart : BoxesApart rowBox 8 := by
  intro k k' hk hk' hne x hx
  have h := (Rect.mem_set_unit.1 hx) 1
  have hx1 : (x 1).val < 256 := (x 1).isLt
  change 256 * (k' % 8) ≤ 256 * (k % 8) + 1 * (x 1).val ∧ 256 * (k % 8) + 1 * (x 1).val < 256 * (k' % 8) + 256 at h
  omega

theorem mats_apart : BoxesApart matBox 8 := by
  intro k k' hk hk' hne x hx
  have h := (Rect.mem_set_unit.1 hx) 0
  have hx1 : (x 0).val < 256 := (x 0).isLt
  change 256 * (k' % 8) ≤ 256 * (k % 8) + 1 * (x 0).val ∧ 256 * (k % 8) + 1 * (x 0).val < 256 * (k' % 8) + 256 at h
  omega

section rows
variable {step : ℕ → Vec Ideal S1x256 .f32 → FVec Ideal S1x256 .f32} {f : Fin 2048 → EReal}

/-- Stores that add `f` to each chunk of a row leave the row with `f` added. -/
theorem row_add (h : ∀ n, n < 8 → ∀ old q, step n old (ix2 0 q) = old (ix2 0 q) + f (at8 n q)) (old : Vec Ideal S1x2048 .f32)
    (i : Fin 2048) : View.canon (Val := Elt Ideal) (e := .f32) (stores rowBox step old 8) (ix2 0 i) = old (ix2 0 i) + f i := by
  obtain ⟨n, hn, q, rfl⟩ := at8_split i
  have e := canon_stores (step := step) rows_apart old n 8 le_rfl hn (ix2 0 q)
  rw [row_emb] at e
  rw [e, h n hn]
  show old ((rowBox n).emb (ix2 0 q)) + _ = _
  rw [row_emb]

/-- After a fill with zero they leave `f`. -/
theorem row_fill (h : ∀ n, n < 8 → ∀ old q, step n old (ix2 0 q) = old (ix2 0 q) + f (at8 n q))
    {sig : RefSig} {κ : Kind} {sp : Space} (v : View sig κ sp S1x2048 .f32) (z : View.Piece (Elt Ideal) S1x2048 .f32)
    (hz : ∀ y, View.canon [z] y = (0 : EReal)) (i : Fin 2048) :
    View.canon (Val := Elt Ideal) (e := .f32) (storesOver v z rowBox step 8) (ix2 0 i) = f i := by
  obtain ⟨n, hn, q, rfl⟩ := at8_split i
  have e := canon_storesOver (step := step) rows_apart v z (0 : EReal) hz n 8 le_rfl hn (ix2 0 q)
  rw [row_emb] at e
  rw [e, h n hn, zero_add]
end rows

section mats
variable {step : ℕ → Vec Ideal S256x1152 .f32 → FVec Ideal S256x1152 .f32} {f : Fin 2048 → Fin 1152 → EReal}

/-- Stores that add `f` to each chunk of a matrix leave the matrix with `f` added. -/
theorem mat_add (h : ∀ n, n < 8 → ∀ old q k, step n old (ix2 q k) = old (ix2 q k) + f (at8 n q) k)
    (old : Vec Ideal S2048x1152 .f32) (i : Fin 2048) (k : Fin 1152) :
    View.canon (Val := Elt Ideal) (e := .f32) (stores matBox step old 8) (ix2 i k) = old (ix2 i k) + f i k := by
  obtain ⟨n, hn, q, rfl⟩ := at8_split i
  have e := canon_stores (step := step) mats_apart old n 8 le_rfl hn (ix2 q k)
  rw [mat_emb] at e
  rw [e, h n hn]
  show old ((matBox n).emb (ix2 q k)) + _ = _
  rw [mat_emb]

/-- After a fill with zero they leave `f`. -/
theorem mat_fill (h : ∀ n, n < 8 → ∀ old q k, step n old (ix2 q k) = old (ix2 q k) + f (at8 n q) k)
    {sig : RefSig} {κ : Kind} {sp : Space} (v : View sig κ sp S2048x1152 .f32) (z : View.Piece (Elt Ideal) S2048x1152 .f32)
    (hz : ∀ y, View.canon [z] y = (0 : EReal)) (i : Fin 2048) (k : Fin 1152) :
    View.canon (Val := Elt Ideal) (e := .f32) (storesOver v z matBox step 8) (ix2 i k) = f i k := by
  obtain ⟨n, hn, q, rfl⟩ := at8_split i
  have e := canon_storesOver (step := step) mats_apart v z (0 : EReal) hz n 8 le_rfl hn (ix2 q k)
  rw [mat_emb] at e
  rw [e, h n hn, zero_add]
end mats

/-- the sum of `f` over the first `n + 1` tiles -/
def tiles (f : Fin 2048 → EReal) (n : ℕ) : EReal := ∑ s ∈ Finset.range (n + 1), ∑ r, f (at8 s r)

theorem tiles_zero (f : Fin 2048 → EReal) : tiles f 0 = ∑ r, f (at8 0 r) := Finset.sum_range_one _
theorem tiles_succ (f : Fin 2048 → EReal) (n : ℕ) : tiles f (n + 1) = tiles f n + ∑ r, f (at8 (n + 1) r) :=
  Finset.sum_range_succ _ _

/-- All eight tiles are the whole. -/
theorem tiles_all (f : Fin 2048 → EReal) : tiles f 7 = ∑ j, f j := by
  rw [tiles, Fin.sum_univ_tiles 8 256 rfl, Finset.sum_range]
  refine Finset.sum_congr rfl fun s _ => Finset.sum_congr rfl fun r _ => congrArg f (Fin.ext ?_)
  show 256 * (s.val % 8) + r.val = s.val * 256 + r.val
  have := s.isLt
  omega

end Cert.KernelIdeal.Hand

end
-- ==== Proof.Blocks.lean ====
/- The blocks the kernel's pipeline hands to a grid point, as entries of the six arguments. -/
module

public import proofs.«01_k».proof.Proof.Spec
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD) (t : Fin cfg0.N)

/-- `x`, `y` and their scales as tables, and the two scalars, in the memory the program starts from -/
def aX := row (m ((c : Thread nD τ).loc main_arg0))
def aXs := scale (m ((c : Thread nD τ).loc main_arg1))
def aY := row (m ((c : Thread nD τ).loc main_arg2))
def aYs := scale (m ((c : Thread nD τ).loc main_arg3))
def aT := scalar (m ((c : Thread nD τ).loc main_arg4))
def aB := scalar (m ((c : Thread nD τ).loc main_arg5))

/-- the block index of each input window at a grid point -/
theorem idx_val : ∀ t : Fin cfg0.N, win0_0.index t = ![0, 0] ∧ win0_1.index t = ![0, 0] ∧ win0_2.index t = ![0, 0] ∧
    win0_3.index t = ![0, 0] ∧ win0_4.index t = ![t.val, 0] ∧ win0_5.index t = ![t.val, 0] :=
  (by decide +kernel : ∀ t : Fin grid0.N, _)

/-- the temperature scalar -/
theorem blk0 : iblk m c 0 t (ix2 0 0) = aT m c := by
  unfold aT scalar
  blk_simp [iblk, idx_val t]
  entry_read
  pointwise
  blk_ext [idx_val t]

/-- the bias -/
theorem blk1 : iblk m c 1 t (ix2 0 0) = aB m c := by
  unfold aB scalar
  blk_simp [iblk, idx_val t]
  entry_read
  pointwise
  blk_ext [idx_val t]

/-- `x`, whole at every point -/
theorem blk2 (i : Fin 2048) (k : Fin 1152) : iblk m c 2 t (ix2 i k) = aX m c i k := by
  unfold aX row
  blk_simp [iblk, idx_val t]
  entry_read
  pointwise
  blk_ext [idx_val t]

/-- the scales of `x`, whole at every point -/
theorem blk3 (i : Fin 2048) : iblk m c 3 t (ix2 0 i) = aXs m c i := by
  unfold aXs scale
  blk_simp [iblk, idx_val t]
  entry_read
  pointwise
  blk_ext [idx_val t]

/-- rows `256 t` to `256 t + 255` of `y` -/
theorem blk4 (r : Fin 256) (k : Fin 1152) (j : Fin 2048) (hj : j.val = 256 * t.val + r.val) : iblk m c 4 t (ix2 r k) = aY m c j k := by
  unfold aY row
  blk_simp [iblk, idx_val t]
  entry_read
  pointwise
  blk_ext [idx_val t]

/-- their scales -/
theorem blk5 (r : Fin 256) (j : Fin 2048) (hj : j.val = 256 * t.val + r.val) : iblk m c 5 t (ix2 r 0) = aYs m c j := by
  unfold aYs scale
  blk_simp [iblk, idx_val t]
  entry_read
  pointwise
  blk_ext [idx_val t]

end Cert.KernelIdeal.Hand

end
-- ==== Proof.State.lean ====
/- What the kernel's buffers hold after each grid point: the sums over the tiles of `y` treated so far. -/
module

public import proofs.«01_k».proof.Proof.Points
public import proofs.«01_k».proof.Proof.Cell
public import proofs.«01_k».proof.Proof.Boxes
public import proofs.«01_k».proof.Proof.Blocks

@[expose] public section

set_option maxRecDepth 16384

noncomputable section

namespace Cert.KernelIdeal.Hand

open Cert.KernelIdeal Cert.KernelIdeal.Gen Cert.Spec
open Idealize.ShloMosaic Idealize.ShloMosaic.TcCoe Idealize.SL.Sem

variable (m : (ℓ : Loc nD τ sig) → Buf (Elt Ideal) ℓ) (c : Dev nD)

/-- The grid's one coordinate is the point's number. -/
theorem coord : ∀ t : Fin cfg0.N, (grid0.coords t 0).val = t.val := (by decide +kernel : ∀ t : Fin grid0.N, _)

/-- The blocks handed to grid point `t` are the arguments' tables, `y` in its tile `t`. -/
theorem holds (t : Fin cfg0.N) : Holds (grid0.coords t) (iblk m c 0 t) (iblk m c 1 t) (iblk m c 2 t) (iblk m c 3 t) (iblk m c 4 t)
    (iblk m c 5 t) (aX m c) (aY m c) (aXs m c) (aYs m c) (aT m c) (aB m c) t.val := by
  have ht : t.val < 8 := lt_of_lt_of_eq t.isLt N_0
  have hj : ∀ r : Fin 256, (at8 t.val r).val = 256 * t.val + r.val := fun r => by
    show 256 * (t.val % 8) + r.val = _
    rw [Nat.mod_eq_of_lt ht]
  exact ⟨ht, coord t, blk0 m c t, blk1 m c t, blk2 m c t, blk3 m c t, fun r k => blk4 m c t r k _ (hj r), fun r => blk5 m c t r _ (hj r)⟩

/-- the loss row's, the temperature gradient's, the bias gradient's and the gradient of `x`'s terms of the arguments -/
abbrev fLoss (i j : Fin 2048) := lossTerm (aX m c) (aY m c) (aXs m c) (aYs m c) (aT m c) (aB m c) i j
abbrev fDlt (i j : Fin 2048) := dltTerm (aX m c) (aY m c) (aXs m c) (aYs m c) (aT m c) (aB m c) i j
abbrev fDb (i j : Fin 2048) := dbTerm (aX m c) (aY m c) (aXs m c) (aYs m c) (aT m c) (aB m c) i j
abbrev fDx (k : Fin 1152) (i j : Fin 2048) := dxTerm (aX m c) (aY m c) (aXs m c) (aYs m c) (aT m c) (aB m c) k i j
abbrev fDy (k : Fin 1152) (i j : Fin 2048) := dyTerm (aX m c) (aY m c) (aXs m c) (aYs m c) (aT m c) (aB m c) k i j

/-- The state of the four accumulators after point `n`. -/
structure Sums (n : ℕ) (h : n < cfg0.N) : Prop where
  loss : ∀ i, (outsAt0 m c n h).1 (ix2 0 i) = tiles (fLoss m c i) n
  dlt : ∀ i, (outsAt0 m c n h).2.2.2.1 (ix2 0 i) = tiles (fDlt m c i) n
  db : ∀ i, (outsAt0 m c n h).2.2.2.2.1 (ix2 0 i) = tiles (fDb m c i) n
  dx : ∀ i k, (outsAt0 m c n h).2.2.2.2.2 (ix2 i k) = tiles (fDx m c k i) n

/-- A row filled with zeros is zero at every entry. -/
theorem fill_row (p : Vec Ideal S1x2048 .f32) (hp : ∀ y, p y = 0) (y : S1x2048.Idx) : View.canon [(rowFill p : View.Piece (Elt Ideal) S1x2048 .f32)] y = (0 : EReal) := by
  rw [canon_rowFill]
  exact hp y

/-- So is a matrix. -/
theorem fill_mat (p : Vec Ideal S2048x1152 .f32) (hp : ∀ y, p y = 0) (y : S2048x1152.Idx) : View.canon [(matFill p : View.Piece (Elt Ideal) S2048x1152 .f32)] y = (0 : EReal) := by
  rw [canon_matFill]
  exact hp y

/-! The four fills are zeros. -/

theorem pay6_zero (y : S2048x1152.Idx) : k0_pay6 (F := Ideal) y = 0 := by idx_vars y; pointwise [k0_pay6]
theorem pay7_zero (y : S1x2048.Idx) : k0_pay7 (F := Ideal) y = 0 := by idx_vars y; pointwise [k0_pay7]
theorem pay8_zero (y : S1x2048.Idx) : k0_pay8 (F := Ideal) y = 0 := by idx_vars y; pointwise [k0_pay8]
theorem pay9_zero (y : S1x2048.Idx) : k0_pay9 (F := Ideal) y = 0 := by idx_vars y; pointwise [k0_pay9]

/-- The first point starts each accumulator from zero. -/
theorem sums_zero (h : 0 < cfg0.N) : Sums m c 0 h := by
  have H := holds m c ⟨0, h⟩
  have h7 : ¬0 % 8 = 7 := by decide
  refine ⟨fun i => ?_, fun i => ?_, fun i => ?_, fun i k => ?_⟩
  · rw [tiles_zero, first_loss m c ⟨0, h⟩ rfl h7]
    exact row_fill (f := fun i => ∑ r, fLoss m c i (at8 0 r)) (fun n hn old q => loss_at H hn old q) _ _ (fill_row _ pay7_zero) i
  · rw [tiles_zero, first_dlt m c ⟨0, h⟩ rfl h7]
    exact row_fill (f := fun i => ∑ r, fDlt m c i (at8 0 r)) (fun n hn old q => dlt_at H hn old q) _ _ (fill_row _ pay8_zero) i
  · rw [tiles_zero, first_db m c ⟨0, h⟩ rfl h7]
    exact row_fill (f := fun i => ∑ r, fDb m c i (at8 0 r)) (fun n hn old q => db_at H hn old q) _ _ (fill_row _ pay9_zero) i
  · rw [tiles_zero, first_dx m c ⟨0, h⟩ rfl h7]
    exact mat_fill (f := fun i k => ∑ r, fDx m c k i (at8 0 r)) (fun n hn old q k => dx_at H hn old q k) _ _ (fill_mat _ pay6_zero) i k

/-- A later point adds its tile. -/
theorem sums_succ (n : ℕ) (h : n + 1 < cfg0.N) (S : Sums m c n (Nat.lt_of_succ_lt h)) : Sums m c (n + 1) h := by
  have hn8 : n + 1 < 8 := lt_of_lt_of_eq h N_0
  have H := holds m c ⟨n + 1, h⟩
  have h0 : ¬(n + 1) % 8 = 0 := by omega
  refine ⟨fun i => ?_, fun i => ?_, fun i => ?_, fun i k => ?_⟩
  · rw [tiles_succ, ← S.loss i, later_loss m c ⟨n + 1, h⟩ h0]
    exact row_add (f := fun i => ∑ r, fLoss m c i (at8 (n + 1) r)) (fun n hn old q => loss_at H hn old q) _ i
  · rw [tiles_succ, ← S.dlt i, later_dlt m c ⟨n + 1, h⟩ h0]
    exact row_add (f := fun i => ∑ r, fDlt m c i (at8 (n + 1) r)) (fun n hn old q => dlt_at H hn old q) _ i
  · rw [tiles_succ, ← S.db i, later_db m c ⟨n + 1, h⟩ h0]
    exact row_add (f := fun i => ∑ r, fDb m c i (at8 (n + 1) r)) (fun n hn old q => db_at H hn old q) _ i
  · rw [tiles_succ, ← S.dx i k, later_dx m c ⟨n + 1, h⟩ h0]
    exact mat_add (f := fun i k => ∑ r, fDx m c k i (at8 (n + 1) r)) (fun n hn old q k => dx_at H hn old q k) _ i k

/-- After point `n` the accumulators hold the sums over the first `n + 1` tiles. -/
theorem sums : ∀ (n : ℕ) (h : n < cfg0.N), Sums m c n h
  | 0, h => sums_zero m c h
  | n + 1, h => sums_succ m c n h (sums n _)

/-- The gradient of a tile of `y`, as the chunks' shares add up. -/
theorem dySum_at (t : Fin cfg0.N) (r : Fin 256) (k : Fin 1152) : ∀ n, n < 8 →
    dySum (grid0.coords t) (iblk m c 0 t) (iblk m c 1 t) (iblk m c 2 t) (iblk m c 3 t) (iblk m c 4 t) (iblk m c 5 t) n (ix2 r k) =
      tiles (fun i => fDy m c k i (at8 t.val r)) n
  | 0, h => by rw [tiles_zero]; exact dy_at (holds m c t) h r k
  | n + 1, h => by
    rw [tiles_succ, ← dySum_at t r k n (by omega), ← dy_at (holds m c t) h r k]
    rfl

/-- Every point writes its tile of the gradient of `y`. -/
theorem dy_block (t : Fin cfg0.N) (r : Fin 256) (k : Fin 1152) :
    (outsAt0 m c t.val t.isLt).2.2.1 (ix2 r k) = ∑ i, fDy m c k i (at8 t.val r) := by
  rw [← tiles_all (fun i => fDy m c k i (at8 t.val r)), ← dySum_at m c t r k 7 (by decide), any_dy m c t]
  rfl

/-- What is written out is the accumulator, entry by entry. -/
theorem pay3_at (L : Vec Ideal S2048x1152 .f32) (i : Fin 2048) (k : Fin 1152) :
    k0_pay3 (readWhole L) (ix2 i k) = L (ix2 i k) := by
  pointwise [k0_pay3, readWhole]

/-- The last point writes out the gradient of `x`. -/
theorem dx_last (t : Fin cfg0.N) (ht : t.val = 7) (i : Fin 2048) (k : Fin 1152) :
    (outsAt0 m c t.val t.isLt).2.1 (ix2 i k) = ∑ j, fDx m c k i j := by
  rw [last_write m c t (by omega) (by omega), pay3_at, (sums m c t.val t.isLt).dx i k, ht, tiles_all]

end Cert.KernelIdeal.Hand

end
-- ==== Proof.Value.lean ====
/- The kernel's five results, entry by entry, as sums over the pairs of a row of `x` and a row of `y`. -/
module

public import proofs.«01_k».proof.Proof.State

@[expose] public section

set_option maxRecDepth 16384

noncomputable section

namespace Cert.KernelIdeal.Hand

open Cert.KernelIdeal Cert.KernelIdeal.Gen Cert.KernelIdeal.Value Cert.Spec
open Idealize.ShloMosaic Idealize.ShloMosaic.TcCoe Idealize.SL.Sem

variable (m : (ℓ : Loc nD τ sig) → Buf (Elt Ideal) ℓ) (c : Dev nD)

/-- the last grid point -/
def lastPt : Fin cfg0.N := ⟨7, lt_of_lt_of_eq (by decide) N_0.symm⟩

theorem lastPt_val : lastPt.val = 7 := rfl

/-- The state after the last point, as the fold over the grid. -/
theorem fold_last : Pipeline.accAt (fun n h => stAt0 m c n h junk0) (stAt0 m c) 0 7 (lt_of_lt_of_eq (by decide) N_0.symm) =
    outsAt0 m c lastPt.val lastPt.isLt :=
  (outsAt0_sweep m c 7 (lt_of_lt_of_eq (by decide) N_0.symm)).symm

/-- The loss row: each row of `x` summed over the rows of `y`. -/
theorem value_6 (i : Fin 2048) : G6 m c (ix2 0 i) = ∑ j, fLoss m c i j := by
  rw [G6_last, fold_last, (sums m c lastPt.val lastPt.isLt).loss i, lastPt_val, tiles_all]

/-- The gradient of `x`. -/
theorem value_7 (i : Fin 2048) (k : Fin 1152) : G7 m c (ix2 i k) = ∑ j, fDx m c k i j := by
  rw [G7_last, fold_last, dx_last m c lastPt lastPt_val i k]

/-- The temperature gradient row. -/
theorem value_9 (i : Fin 2048) : G9 m c (ix2 0 i) = ∑ j, fDlt m c i j := by
  rw [G9_last, fold_last, (sums m c lastPt.val lastPt.isLt).dlt i, lastPt_val, tiles_all]

/-- The bias gradient row. -/
theorem value_10 (i : Fin 2048) : G10 m c (ix2 0 i) = ∑ j, fDb m c i j := by
  rw [G10_last, fold_last, (sums m c lastPt.val lastPt.isLt).db i, lastPt_val, tiles_all]

/-- The gradient of `y`: row `j` is written by the point of its tile. -/
theorem value_8 (j : Fin 2048) (k : Fin 1152) : G8 m c (ix2 j k) = ∑ i, fDy m c k i j := by
  have hN : cfg0.N = 8 := N_0
  have hp : pt8Of (ix2 j k) = j.val / 256 := by
    have := k.isLt
    show 1 * (j.val / 256 - 0) + 1 * (k.val / 1152 - 0) = _
    omega
  have hl : loc8Of (ix2 j k) = ix2 ⟨j.val % 256, Nat.mod_lt _ (by decide)⟩ k := by
    funext a
    apply Fin.ext
    match a with
    | ⟨0, _⟩ => rfl
    | ⟨1, _⟩ => exact Nat.mod_eq_of_lt k.isLt
  have ht : j.val / 256 < cfg0.N := by omega
  have hj : at8 (j.val / 256) ⟨j.val % 256, Nat.mod_lt _ (by decide)⟩ = j := by
    apply Fin.ext
    show 256 * (j.val / 256 % 8) + j.val % 256 = j.val
    omega
  have e := dy_block m c ⟨j.val / 256, ht⟩ ⟨j.val % 256, Nat.mod_lt _ (by decide)⟩ k
  rw [hj, outsAt0_sweep] at e
  unfold G8
  rw [dif_pos (by rw [hp]; exact ht), hl, fold0_congr m c _ _ _ _ hp]
  exact e

end Cert.KernelIdeal.Hand

end
-- ==== Proof.RefRun.lean ====
/- What the reference's one grid point computes, as functions of its six operand blocks, and the arrays it leaves. -/
module

public import proofs.«01_k».proof.Proof.Gen.ReferenceIdeal.Value
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem

variable {F : FTy → Type} [FloatOps F] [Named F]

/-- the offsets of a read or store of a whole buffer are zero -/
theorem off_zero : (![0, 0] : Fin 2 → ℕ) = fun _ => 0 := by decide

section
variable (x0 x1 : Vec F S1x1 .f32) (x2 : Vec F S2048x1152 .fp8e4m3) (x3 : Vec F S2048x1 .f32)
  (x4 : Vec F S2048x1152 .fp8e4m3) (x5 : Vec F S1x2048 .f32)

/-- the one entry of a 1×1 block -/
def sc (x : Vec F S1x1 .f32) : Elt F .f32 := View.ld x (Rect.unit ![0, 0] S1x1.size inb_S1x1_S1x1_0_0) (Shape.Idx.first (by decide))
/-- a batch, read whole -/
def mat (x : Vec F S2048x1152 .fp8e4m3) : Vec F S2048x1152 .fp8e4m3 := View.ld x (Rect.unit ![0, 0] S2048x1152.size inb_S2048x1152_S2048x1152_0_0)
/-- a column of scales, read whole -/
def col (x : Vec F S2048x1 .f32) : Vec F S2048x1 .f32 := View.ld x (Rect.unit ![0, 0] S2048x1.size inb_S2048x1_S2048x1_0_0)
/-- a row of scales, read whole -/
def rw1 (x : Vec F S1x2048 .f32) : Vec F S1x2048 .f32 := View.ld x (Rect.unit ![0, 0] S1x2048.size inb_S1x2048_S1x2048_0_0)

/-- the scaled products -/
def ts : FVec F S2048x2048 .f32 := k0_pay6 (mat x2) (mat x4) (col x3) (rw1 x5) (sc x0)
/-- the margins: the logits, negated off the diagonal's sign table -/
def mz : FVec F S2048x2048 .f32 := k0_pay8 (mat x2) (mat x4) (col x3) (rw1 x5) (sc x0) (sc x1)
/-- the loss row -/
def loss : FVec F S1x2048 .f32 :=
  k0_pay14 (k0_pay9 (mat x2) (mat x4) (col x3) (rw1 x5) (sc x0) (sc x1)) (k0_pay11 (mat x2) (mat x4) (col x3) (rw1 x5) (sc x0) (sc x1))
    (k0_pay12 (mat x2) (mat x4) (col x3) (rw1 x5) (sc x0) (sc x1)) (k0_pay13 (mat x2) (mat x4) (col x3) (rw1 x5) (sc x0) (sc x1))
/-- the gradient of `x` -/
def dx : FVec F S2048x1152 .bf16 := k0_pay19 (k0_pay2 (mat x4)) (k0_pay4 (rw1 x5)) (k0_pay5 (sc x0)) (k0_pay7 (F := F)) (mz x0 x1 x2 x3 x4 x5)
/-- the gradient of `y` -/
def dy : FVec F S2048x1152 .bf16 := k0_pay20 (k0_pay1 (mat x2)) (k0_pay3 (col x3)) (k0_pay5 (sc x0)) (k0_pay7 (F := F)) (mz x0 x1 x2 x3 x4 x5)
/-- the temperature gradient, row by row -/
def dlt : FVec F S1x2048 .f32 := k0_pay17 (ts x0 x2 x3 x4 x5) (k0_pay7 (F := F)) (mz x0 x1 x2 x3 x4 x5)
/-- the bias gradient, row by row -/
def db : FVec F S1x2048 .f32 := k0_pay16 (k0_pay7 (F := F)) (mz x0 x1 x2 x3 x4 x5)
end

section
variable (c : Dev nD) (arg0 : Memref sig .tc .smem S1x1 .f32) (harg0 : arg0.IsWhole)
  (arg1 : Memref sig .tc .smem S1x1 .f32) (harg1 : arg1.IsWhole)
  (arg2 : Memref sig .tc .vmem S2048x1152 .fp8e4m3) (harg2 : arg2.IsWhole)
  (arg3 : Memref sig .tc .vmem S2048x1 .f32) (harg3 : arg3.IsWhole)
  (arg4 : Memref sig .tc .vmem S2048x1152 .fp8e4m3) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S2048x1152 .bf16) (harg7 : arg7.IsWhole)
  (arg8 : Memref sig .tc .vmem S2048x1152 .bf16) (harg8 : arg8.IsWhole)
  (arg9 : Memref sig .tc .vmem S1x2048 .f32) (harg9 : arg9.IsWhole)
  (arg10 : Memref sig .tc .vmem S1x2048 .f32) (harg10 : arg10.IsWhole)
  (x0 x1 : Vec F S1x1 .f32) (x2 : Vec F S2048x1152 .fp8e4m3) (x3 : Vec F S2048x1 .f32)
  (x4 : Vec F S2048x1152 .fp8e4m3) (x5 : Vec F S1x2048 .f32)

/-- Window 6 is left holding `loss`. -/
theorem out_6 :
    out0_A_6 c arg0 harg0 arg1 harg1 arg2 harg2 arg3 harg3 arg4 harg4 arg5 harg5 arg6 harg6 arg7 harg7 arg8 harg8 arg9 harg9 arg10 harg10
      x0 x1 x2 x3 x4 x5 = loss x0 x1 x2 x3 x4 x5 := by
  have h : (kernelRun0_A c arg0 harg0 arg1 harg1 arg2 harg2 arg3 harg3 arg4 harg4 arg5 harg5 arg6 harg6 arg7 harg7 arg8 harg8 arg9 harg9 arg10 harg10
      x0 x1 x2 x3 x4 x5).1 =
      [⟨Rect.unit ![0, 0] S1x2048.size inb_S1x2048_S1x2048_0_0, loss (arg0.view.read (Elt F) (harg0.unread x0)) (arg1.view.read (Elt F) (harg1.unread x1)) (arg2.view.read (Elt F) (harg2.unread x2)) (arg3.view.read (Elt F) (harg3.unread x3)) (arg4.view.read (Elt F) (harg4.unread x4)) (arg5.view.read (Elt F) (harg5.unread x5))⟩] := rfl
  unfold out0_A_6
  rw [h, View.read_writes_junk_eq_canon]
  simp only [harg0.read_unread, harg1.read_unread, harg2.read_unread, harg3.read_unread, harg4.read_unread, harg5.read_unread]
  exact View.canon_unit_zero (S := S1x2048) off_zero _ _

/-- Window 7 is left holding `dx`. -/
theorem out_7 :
    out0_A_7 c arg0 harg0 arg1 harg1 arg2 harg2 arg3 harg3 arg4 harg4 arg5 harg5 arg6 harg6 arg7 harg7 arg8 harg8 arg9 harg9 arg10 harg10
      x0 x1 x2 x3 x4 x5 = dx x0 x1 x2 x3 x4 x5 := by
  have h : (kernelRun0_A c arg0 harg0 arg1 harg1 arg2 harg2 arg3 harg3 arg4 harg4 arg5 harg5 arg6 harg6 arg7 harg7 arg8 harg8 arg9 harg9 arg10 harg10
      x0 x1 x2 x3 x4 x5).2.1 =
      [⟨Rect.unit ![0, 0] S2048x1152.size inb_S2048x1152_S2048x1152_0_0, dx (arg0.view.read (Elt F) (harg0.unread x0)) (arg1.view.read (Elt F) (harg1.unread x1)) (arg2.view.read (Elt F) (harg2.unread x2)) (arg3.view.read (Elt F) (harg3.unread x3)) (arg4.view.read (Elt F) (harg4.unread x4)) (arg5.view.read (Elt F) (harg5.unread x5))⟩] := rfl
  unfold out0_A_7
  rw [h, View.read_writes_junk_eq_canon]
  simp only [harg0.read_unread, harg1.read_unread, harg2.read_unread, harg3.read_unread, harg4.read_unread, harg5.read_unread]
  exact View.canon_unit_zero (S := S2048x1152) off_zero _ _

/-- Window 8 is left holding `dy`. -/
theorem out_8 :
    out0_A_8 c arg0 harg0 arg1 harg1 arg2 harg2 arg3 harg3 arg4 harg4 arg5 harg5 arg6 harg6 arg7 harg7 arg8 harg8 arg9 harg9 arg10 harg10
      x0 x1 x2 x3 x4 x5 = dy x0 x1 x2 x3 x4 x5 := by
  have h : (kernelRun0_A c arg0 harg0 arg1 harg1 arg2 harg2 arg3 harg3 arg4 harg4 arg5 harg5 arg6 harg6 arg7 harg7 arg8 harg8 arg9 harg9 arg10 harg10
      x0 x1 x2 x3 x4 x5).2.2.1 =
      [⟨Rect.unit ![0, 0] S2048x1152.size inb_S2048x1152_S2048x1152_0_0, dy (arg0.view.read (Elt F) (harg0.unread x0)) (arg1.view.read (Elt F) (harg1.unread x1)) (arg2.view.read (Elt F) (harg2.unread x2)) (arg3.view.read (Elt F) (harg3.unread x3)) (arg4.view.read (Elt F) (harg4.unread x4)) (arg5.view.read (Elt F) (harg5.unread x5))⟩] := rfl
  unfold out0_A_8
  rw [h, View.read_writes_junk_eq_canon]
  simp only [harg0.read_unread, harg1.read_unread, harg2.read_unread, harg3.read_unread, harg4.read_unread, harg5.read_unread]
  exact View.canon_unit_zero (S := S2048x1152) off_zero _ _

/-- Window 9 is left holding `dlt`. -/
theorem out_9 :
    out0_A_9 c arg0 harg0 arg1 harg1 arg2 harg2 arg3 harg3 arg4 harg4 arg5 harg5 arg6 harg6 arg7 harg7 arg8 harg8 arg9 harg9 arg10 harg10
      x0 x1 x2 x3 x4 x5 = dlt x0 x1 x2 x3 x4 x5 := by
  have h : (kernelRun0_A c arg0 harg0 arg1 harg1 arg2 harg2 arg3 harg3 arg4 harg4 arg5 harg5 arg6 harg6 arg7 harg7 arg8 harg8 arg9 harg9 arg10 harg10
      x0 x1 x2 x3 x4 x5).2.2.2.1 =
      [⟨Rect.unit ![0, 0] S1x2048.size inb_S1x2048_S1x2048_0_0, dlt (arg0.view.read (Elt F) (harg0.unread x0)) (arg1.view.read (Elt F) (harg1.unread x1)) (arg2.view.read (Elt F) (harg2.unread x2)) (arg3.view.read (Elt F) (harg3.unread x3)) (arg4.view.read (Elt F) (harg4.unread x4)) (arg5.view.read (Elt F) (harg5.unread x5))⟩] := rfl
  unfold out0_A_9
  rw [h, View.read_writes_junk_eq_canon]
  simp only [harg0.read_unread, harg1.read_unread, harg2.read_unread, harg3.read_unread, harg4.read_unread, harg5.read_unread]
  exact View.canon_unit_zero (S := S1x2048) off_zero _ _

/-- Window 10 is left holding `db`. -/
theorem out_10 :
    out0_A_10 c arg0 harg0 arg1 harg1 arg2 harg2 arg3 harg3 arg4 harg4 arg5 harg5 arg6 harg6 arg7 harg7 arg8 harg8 arg9 harg9 arg10 harg10
      x0 x1 x2 x3 x4 x5 = db x0 x1 x2 x3 x4 x5 := by
  have h : (kernelRun0_A c arg0 harg0 arg1 harg1 arg2 harg2 arg3 harg3 arg4 harg4 arg5 harg5 arg6 harg6 arg7 harg7 arg8 harg8 arg9 harg9 arg10 harg10
      x0 x1 x2 x3 x4 x5).2.2.2.2.1 =
      [⟨Rect.unit ![0, 0] S1x2048.size inb_S1x2048_S1x2048_0_0, db (arg0.view.read (Elt F) (harg0.unread x0)) (arg1.view.read (Elt F) (harg1.unread x1)) (arg2.view.read (Elt F) (harg2.unread x2)) (arg3.view.read (Elt F) (harg3.unread x3)) (arg4.view.read (Elt F) (harg4.unread x4)) (arg5.view.read (Elt F) (harg5.unread x5))⟩] := rfl
  unfold out0_A_10
  rw [h, View.read_writes_junk_eq_canon]
  simp only [harg0.read_unread, harg1.read_unread, harg2.read_unread, harg3.read_unread, harg4.read_unread, harg5.read_unread]
  exact View.canon_unit_zero (S := S1x2048) off_zero _ _

end

/-- the block index of each output window at the one grid point -/
theorem out_idx : win0_6.index t0_0 = ![0, 0] ∧ win0_7.index t0_0 = ![0, 0] ∧ win0_8.index t0_0 = ![0, 0] ∧
    win0_9.index t0_0 = ![0, 0] ∧ win0_10.index t0_0 = ![0, 0] := by
  decide +kernel

section
variable (m : (ℓ : Loc nD τ sig) → Buf (Elt F) ℓ) (c : Dev nD)

/-- The array of window 6 after the run. -/
theorem arr_6 : (dats m 0 c).arrAt 6 cfg0.N =
    loss (iblk m c 0 t0_0) (iblk m c 1 t0_0) (iblk m c 2 t0_0) (iblk m c 3 t0_0) (iblk m c 4 t0_0) (iblk m c 5 t0_0) := by
  have h := (blocks6 m c t0_0 rfl).trans (flushed6_A m c t0_0)
  rw [out_6] at h
  funext i
  refine Eq.trans ?_ (congrFun h i)
  show _ = (dats m 0 c).arrAt 6 cfg0.N (((cfg0.win 6).blk t0_0).view.emb i)
  rw [show ((cfg0.win 6).blk t0_0).view.emb i = i from by blk_ext [out_idx]]

/-- The array of window 7 after the run. -/
theorem arr_7 : (dats m 0 c).arrAt 7 cfg0.N =
    dx (iblk m c 0 t0_0) (iblk m c 1 t0_0) (iblk m c 2 t0_0) (iblk m c 3 t0_0) (iblk m c 4 t0_0) (iblk m c 5 t0_0) := by
  have h := (blocks7 m c t0_0 rfl).trans (flushed7_A m c t0_0)
  rw [out_7] at h
  funext i
  refine Eq.trans ?_ (congrFun h i)
  show _ = (dats m 0 c).arrAt 7 cfg0.N (((cfg0.win 7).blk t0_0).view.emb i)
  rw [show ((cfg0.win 7).blk t0_0).view.emb i = i from by blk_ext [out_idx]]

/-- The array of window 8 after the run. -/
theorem arr_8 : (dats m 0 c).arrAt 8 cfg0.N =
    dy (iblk m c 0 t0_0) (iblk m c 1 t0_0) (iblk m c 2 t0_0) (iblk m c 3 t0_0) (iblk m c 4 t0_0) (iblk m c 5 t0_0) := by
  have h := (blocks8 m c t0_0 rfl).trans (flushed8_A m c t0_0)
  rw [out_8] at h
  funext i
  refine Eq.trans ?_ (congrFun h i)
  show _ = (dats m 0 c).arrAt 8 cfg0.N (((cfg0.win 8).blk t0_0).view.emb i)
  rw [show ((cfg0.win 8).blk t0_0).view.emb i = i from by blk_ext [out_idx]]

/-- The array of window 9 after the run. -/
theorem arr_9 : (dats m 0 c).arrAt 9 cfg0.N =
    dlt (iblk m c 0 t0_0) (iblk m c 1 t0_0) (iblk m c 2 t0_0) (iblk m c 3 t0_0) (iblk m c 4 t0_0) (iblk m c 5 t0_0) := by
  have h := (blocks9 m c t0_0 rfl).trans (flushed9_A m c t0_0)
  rw [out_9] at h
  funext i
  refine Eq.trans ?_ (congrFun h i)
  show _ = (dats m 0 c).arrAt 9 cfg0.N (((cfg0.win 9).blk t0_0).view.emb i)
  rw [show ((cfg0.win 9).blk t0_0).view.emb i = i from by blk_ext [out_idx]]

/-- The array of window 10 after the run. -/
theorem arr_10 : (dats m 0 c).arrAt 10 cfg0.N =
    db (iblk m c 0 t0_0) (iblk m c 1 t0_0) (iblk m c 2 t0_0) (iblk m c 3 t0_0) (iblk m c 4 t0_0) (iblk m c 5 t0_0) := by
  have h := (blocks10 m c t0_0 rfl).trans (flushed10_A m c t0_0)
  rw [out_10] at h
  funext i
  refine Eq.trans ?_ (congrFun h i)
  show _ = (dats m 0 c).arrAt 10 cfg0.N (((cfg0.win 10).blk t0_0).view.emb i)
  rw [show ((cfg0.win 10).blk t0_0).view.emb i = i from by blk_ext [out_idx]]

end

end Cert.ReferenceIdeal.Hand

end
-- ==== Proof.RefBlocks.lean ====
/- The blocks the reference's one grid point reads, as entries of the six arguments. -/
module

public import proofs.«01_k».proof.Proof.Spec
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.SL.Sem

variable (m : (ℓ : Loc nD τ sig) → Buf (Elt Ideal) ℓ) (c : Dev nD) (t : Fin cfg0.N)

/-- `x`, `y` and their scales as tables, and the two scalars, in the memory the program starts from -/
def aX := row (m ((c : Thread nD τ).loc main_arg0))
def aXs := scale (m ((c : Thread nD τ).loc main_arg1))
def aY := row (m ((c : Thread nD τ).loc main_arg2))
def aYs := scale (m ((c : Thread nD τ).loc main_arg3))
def aT := scalar (m ((c : Thread nD τ).loc main_arg4))
def aB := scalar (m ((c : Thread nD τ).loc main_arg5))

/-- the block index of each input window at a grid point -/
theorem idx_val : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, _)

/-- the temperature scalar -/
theorem blk0 : iblk m c 0 t (ix2 0 0) = aT m c := by
  unfold aT scalar
  blk_simp [iblk, idx_val t]
  entry_read
  pointwise
  blk_ext [idx_val t]

/-- the bias -/
theorem blk1 : iblk m c 1 t (ix2 0 0) = aB m c := by
  unfold aB scalar
  blk_simp [iblk, idx_val t]
  entry_read
  pointwise
  blk_ext [idx_val t]

/-- `x` -/
theorem blk2 (i : Fin 2048) (k : Fin 1152) : iblk m c 2 t (ix2 i k) = aX m c i k := by
  unfold aX row
  blk_simp [iblk, idx_val t]
  entry_read
  pointwise
  blk_ext [idx_val t]

/-- its scales -/
theorem blk3 (i : Fin 2048) : iblk m c 3 t (ix2 i 0) = aXs m c i := by
  unfold aXs scale
  blk_simp [iblk, idx_val t]
  entry_read
  pointwise
  blk_ext [idx_val t]

/-- `y` -/
theorem blk4 (i : Fin 2048) (k : Fin 1152) : iblk m c 4 t (ix2 i k) = aY m c i k := by
  unfold aY row
  blk_simp [iblk, idx_val t]
  entry_read
  pointwise
  blk_ext [idx_val t]

/-- its scales -/
theorem blk5 (i : Fin 2048) : iblk m c 5 t (ix2 0 i) = aYs m c i := by
  unfold aYs scale
  blk_simp [iblk, idx_val t]
  entry_read
  pointwise
  blk_ext [idx_val t]

end Cert.ReferenceIdeal.Hand

end
-- ==== Proof.RefValue.lean ====
/- The reference's results, entry by entry: each is the sum over the pairs of the loss or of its gradient. -/
module

public import proofs.«01_k».proof.Proof.RefRun
public import proofs.«01_k».proof.Proof.RefBlocks
public import proofs.«01_k».proof.Proof.Alg
public import Idealize.ShloMosaic.Lib.Pointwise

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.SL.Sem

section
variable (x0 x1 : Vec Ideal S1x1 .f32) (x2 : Vec Ideal S2048x1152 .fp8e4m3) (x3 : Vec Ideal S2048x1 .f32)
  (x4 : Vec Ideal S2048x1152 .fp8e4m3) (x5 : Vec Ideal S1x2048 .f32)
variable (X Y : Fin 2048 → Fin 1152 → EReal) (Xs Ys : Fin 2048 → EReal) (T B : EReal)

/-- the six blocks hold the six tables -/
structure Holds : Prop where
  h0 : x0 (ix2 0 0) = T
  h1 : x1 (ix2 0 0) = B
  h2 : ∀ i k, x2 (ix2 i k) = X i k
  h3 : ∀ i, x3 (ix2 i 0) = Xs i
  h4 : ∀ i k, x4 (ix2 i k) = Y i k
  h5 : ∀ i, x5 (ix2 0 i) = Ys i

variable {x0 x1 x2 x3 x4 x5 X Y Xs Ys T B} (H : Holds x0 x1 x2 x3 x4 x5 X Y Xs Ys T B)
include H

theorem ts_at (i j : Fin 2048) : ts x0 x2 x3 x4 x5 (ix2 i j) = prod X Y Xs Ys T i j := by
  pointwise [ts, k0_pay6, k0_pay1, k0_pay2, k0_pay3, k0_pay4, k0_pay5, sc, mat, col, rw1]
  simp only [H.h0, H.h2, H.h3, H.h4, H.h5]
  rfl

omit H in
/-- The sign table: one on the diagonal, minus one off it. -/
theorem z_at (i j : Fin 2048) : k0_pay7 (F := Ideal) (ix2 i j) = if i = j then 1 else -1 := by
  pointwise [k0_pay7]
  rw [ofBits_neg_one]
  by_cases h : i = j
  · subst h
    simp [Scalar.select, IntOp.cmpi]
  · have hne : BitVec.ofNat 32 i.val ≠ BitVec.ofNat 32 j.val := by
      intro e
      have := congrArg BitVec.toNat e
      simp only [BitVec.toNat_ofNat] at this
      exact h (Fin.ext (by omega))
    simp [Scalar.select, IntOp.cmpi, h, beq_eq_false_iff_ne.2 hne]

omit H in
/-- A product with minus the sign. -/
theorem neg_z_mul (i j : Fin 2048) (a : EReal) :
    (0 - k0_pay7 (F := Ideal) (ix2 i j)) * a = if i = j then 0 - a else a := by
  rw [z_at]
  by_cases h : i = j
  · rw [if_pos h, if_pos h, zero_sub, zero_sub, neg_one_mul]
  · rw [if_neg h, if_neg h, zero_sub, neg_neg, one_mul]

theorem mz_at (i j : Fin 2048) : mz x0 x1 x2 x3 x4 x5 (ix2 i j) = margin X Y Xs Ys T B i j := by
  have h : mz x0 x1 x2 x3 x4 x5 (ix2 i j) =
      (0 - k0_pay7 (F := Ideal) (ix2 i j)) * (ts x0 x2 x3 x4 x5 (ix2 i j) + x1 (ix2 0 0)) := by
    unfold mz k0_pay8 ts
    pointwise [sc]
  rw [h, neg_z_mul, ts_at H, H.h1]
  rfl

theorem loss_at (i : Fin 2048) : loss x0 x1 x2 x3 x4 x5 (ix2 0 i) = ∑ j, lossTerm X Y Xs Ys T B i j := by
  have h : loss x0 x1 x2 x3 x4 x5 (ix2 0 i) = Ideal.div (∑ j, softplus (mz x0 x1 x2 x3 x4 x5 (ix2 i j))) (Ideal.ofBits FTy.f32 1157627904#32) := by
    pointwise [loss, k0_pay14, k0_pay9, k0_pay10, k0_pay11, k0_pay12, k0_pay13]
    simp only [ne_eq, not_true_eq_false, if_false]
    rfl
  rw [h, div_2048, sum_part]
  simp only [mz_at H]
  rfl

theorem db_at (i : Fin 2048) : db x0 x1 x2 x3 x4 x5 (ix2 0 i) = ∑ j, dbTerm X Y Xs Ys T B i j := by
  pointwise [db, k0_pay16, k0_pay15]
  simp only [neg_z_mul, mz_at H, div_2048]
  rfl

theorem dlt_at (i : Fin 2048) : dlt x0 x1 x2 x3 x4 x5 (ix2 0 i) = ∑ j, dltTerm X Y Xs Ys T B i j := by
  pointwise [dlt, k0_pay17, k0_pay15]
  simp only [neg_z_mul, mz_at H, ts_at H, div_2048]
  rfl

theorem dx_at (i : Fin 2048) (k : Fin 1152) : dx x0 x1 x2 x3 x4 x5 (ix2 i k) = ∑ j, dxTerm X Y Xs Ys T B k i j := by
  pointwise [dx, k0_pay19, k0_pay18, k0_pay15, k0_pay2, k0_pay4, k0_pay5, sc, mat, rw1]
  simp only [neg_z_mul, mz_at H, div_2048, H.h0, H.h4, H.h5]
  rfl

theorem dy_at (j : Fin 2048) (k : Fin 1152) : dy x0 x1 x2 x3 x4 x5 (ix2 j k) = ∑ i, dyTerm X Y Xs Ys T B k i j := by
  pointwise [dy, k0_pay20, k0_pay18, k0_pay15, k0_pay1, k0_pay3, k0_pay5, sc, mat, col]
  simp only [neg_z_mul, mz_at H, div_2048, H.h0, H.h2, H.h3]
  rfl

end

variable (m : (ℓ : Loc nD τ sig) → Buf (Elt Ideal) ℓ) (c : Dev nD)

/-- The blocks the reference reads are the arguments' tables. -/
theorem holds : Holds (iblk m c 0 t0_0) (iblk m c 1 t0_0) (iblk m c 2 t0_0) (iblk m c 3 t0_0) (iblk m c 4 t0_0) (iblk m c 5 t0_0)
    (aX m c) (aY m c) (aXs m c) (aYs m c) (aT m c) (aB m c) :=
  ⟨blk0 m c t0_0, blk1 m c t0_0, blk2 m c t0_0, blk3 m c t0_0, blk4 m c t0_0, blk5 m c t0_0⟩

/-- The loss row the reference leaves. -/
theorem value_6 (i : Fin 2048) : (dats m 0 c).arrAt 6 cfg0.N (ix2 0 i) =
    ∑ j, lossTerm (aX m c) (aY m c) (aXs m c) (aYs m c) (aT m c) (aB m c) i j := by
  rw [arr_6]; exact loss_at (holds m c) i
/-- The gradient of `x` it leaves. -/
theorem value_7 (i : Fin 2048) (k : Fin 1152) : (dats m 0 c).arrAt 7 cfg0.N (ix2 i k) =
    ∑ j, dxTerm (aX m c) (aY m c) (aXs m c) (aYs m c) (aT m c) (aB m c) k i j := by
  rw [arr_7]; exact dx_at (holds m c) i k
/-- The gradient of `y` it leaves. -/
theorem value_8 (j : Fin 2048) (k : Fin 1152) : (dats m 0 c).arrAt 8 cfg0.N (ix2 j k) =
    ∑ i, dyTerm (aX m c) (aY m c) (aXs m c) (aYs m c) (aT m c) (aB m c) k i j := by
  rw [arr_8]; exact dy_at (holds m c) j k
/-- The temperature gradient it leaves. -/
theorem value_9 (i : Fin 2048) : (dats m 0 c).arrAt 9 cfg0.N (ix2 0 i) =
    ∑ j, dltTerm (aX m c) (aY m c) (aXs m c) (aYs m c) (aT m c) (aB m c) i j := by
  rw [arr_9]; exact dlt_at (holds m c) i
/-- The bias gradient it leaves. -/
theorem value_10 (i : Fin 2048) : (dats m 0 c).arrAt 10 cfg0.N (ix2 0 i) =
    ∑ j, dbTerm (aX m c) (aY m c) (aXs m c) (aYs m c) (aT m c) (aB m c) i j := by
  rw [arr_10]; exact db_at (holds m c) i

end Cert.ReferenceIdeal.Hand

end
-- ==== Proof.Agree.lean ====
/- From memories that agree on the arguments the two programs' results are equal, entry by entry. -/
module

public import proofs.«01_k».proof.Defs
public import proofs.«01_k».proof.Proof.Value
public import proofs.«01_k».proof.Proof.RefValue
public import Idealize.ShloMosaic.Adequacy
public import Idealize.ShloMosaic.Init

@[expose] public section

set_option maxRecDepth 16384

noncomputable section

namespace Cert.Agree

open Idealize.ShloMosaic Idealize.ShloMosaic.TcCoe Idealize.SL.Sem

/-- Two rows equal at every entry are equal. -/
theorem row_ext {f g : Cert.KernelIdeal.S1x2048.Idx → EReal} (h : ∀ i : Fin 2048, f (ix2 0 i) = g (ix2 0 i)) : f = g := by
  funext y
  idx_vars y
  have e : y0 = 0 := Subsingleton.elim (α := Fin 1) _ _
  rw [e]
  exact h _

/-- Two matrices equal at every entry are equal. -/
theorem mat_ext {f g : Cert.KernelIdeal.S2048x1152.Idx → EReal} (h : ∀ (i : Fin 2048) (k : Fin 1152), f (ix2 i k) = g (ix2 i k)) : f = g := by
  funext y
  idx_vars y
  exact h _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same six tables. -/
structure Same : Prop where
  x : Cert.ReferenceIdeal.Hand.aX m' c = Cert.KernelIdeal.Hand.aX m c
  xs : Cert.ReferenceIdeal.Hand.aXs m' c = Cert.KernelIdeal.Hand.aXs m c
  y : Cert.ReferenceIdeal.Hand.aY m' c = Cert.KernelIdeal.Hand.aY m c
  ys : Cert.ReferenceIdeal.Hand.aYs m' c = Cert.KernelIdeal.Hand.aYs m c
  t : Cert.ReferenceIdeal.Hand.aT m' c = Cert.KernelIdeal.Hand.aT m c
  b : Cert.ReferenceIdeal.Hand.aB m' c = Cert.KernelIdeal.Hand.aB m c

variable {m m' c} (S : Same m m' c)
include S

/-- The loss rows are equal. -/
theorem loss_eq : (Cert.ReferenceIdeal.Gen.dats m' 0 c).arrAt 6 Cert.ReferenceIdeal.cfg0.N = Cert.KernelIdeal.Value.G6 m c :=
  row_ext fun i => by
    rw [Cert.ReferenceIdeal.Hand.value_6 m' c i, Cert.KernelIdeal.Hand.value_6 m c i, S.x, S.xs, S.y, S.ys, S.t, S.b]

/-- The gradients of `x` are equal. -/
theorem dx_eq : (Cert.ReferenceIdeal.Gen.dats m' 0 c).arrAt 7 Cert.ReferenceIdeal.cfg0.N = Cert.KernelIdeal.Value.G7 m c :=
  mat_ext fun i k => by
    rw [Cert.ReferenceIdeal.Hand.value_7 m' c i k, Cert.KernelIdeal.Hand.value_7 m c i k, S.x, S.xs, S.y, S.ys, S.t, S.b]

/-- The gradients of `y` are equal. -/
theorem dy_eq : (Cert.ReferenceIdeal.Gen.dats m' 0 c).arrAt 8 Cert.ReferenceIdeal.cfg0.N = Cert.KernelIdeal.Value.G8 m c :=
  mat_ext fun j k => by
    rw [Cert.ReferenceIdeal.Hand.value_8 m' c j k, Cert.KernelIdeal.Hand.value_8 m c j k, S.x, S.xs, S.y, S.ys, S.t, S.b]

/-- The rows of temperature gradients are equal. -/
theorem dlt_eq : (Cert.ReferenceIdeal.Gen.dats m' 0 c).arrAt 9 Cert.ReferenceIdeal.cfg0.N = Cert.KernelIdeal.Value.G9 m c :=
  row_ext fun i => by
    rw [Cert.ReferenceIdeal.Hand.value_9 m' c i, Cert.KernelIdeal.Hand.value_9 m c i, S.x, S.xs, S.y, S.ys, S.t, S.b]

/-- The rows of bias gradients are equal. -/
theorem db_eq : (Cert.ReferenceIdeal.Gen.dats m' 0 c).arrAt 10 Cert.ReferenceIdeal.cfg0.N = Cert.KernelIdeal.Value.G10 m c :=
  row_ext fun i => by
    rw [Cert.ReferenceIdeal.Hand.value_10 m' c i, Cert.KernelIdeal.Hand.value_10 m c i, S.x, S.xs, S.y, S.ys, S.t, S.b]

end Cert.Agree

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Agree
public import Idealize.ShloMosaic.Adequacy
public import Idealize.ShloMosaic.Init

@[expose] public section

noncomputable section

namespace Cert.Proof

open Idealize.ShloMosaic Idealize.SL.Sem Cert.Agree

/-- Each named constant is given at the value its bit pattern rounds. -/
theorem preserves : Cert.preserves_Kernel_KernelIdeal :=
  ⟨IdealRules.named_const.statement Cert.KernelIdeal.κ "log2e" .f32 0x3FB8AA3B#32 _ rfl,
    IdealRules.named_const.statement Cert.KernelIdeal.κ "ln2" .f32 0x3F317218#32 _ rfl,
    IdealRules.named_const.statement Cert.KernelIdeal.κ "ln2_over_n" .f32 0x39B17218#32 _ rfl⟩

/-- From memories that agree on the six arguments, kernel and reference end with the same five results. -/
theorem algebraic : Cert.algebraic_KernelIdeal_ReferenceIdeal (hKernelIdeal := Cert.KernelIdeal.Gen.facts)
    (hReferenceIdeal := Cert.ReferenceIdeal.Gen.facts) := by
  intro m g m' g' _ hag
  have S : ∀ c, Same m m' c := fun c =>
    ⟨congrArg Cert.Spec.row (hag c).1, congrArg Cert.Spec.scale (hag c).2.1, congrArg Cert.Spec.row (hag c).2.2.1,
      congrArg Cert.Spec.scale (hag c).2.2.2.1, congrArg Cert.Spec.scalar (hag c).2.2.2.2.1,
      congrArg Cert.Spec.scalar (hag c).2.2.2.2.2⟩
  refine ⟨Cert.KernelIdeal.Value.G6 m, Cert.KernelIdeal.Value.G7 m, Cert.KernelIdeal.Value.G8 m, Cert.KernelIdeal.Value.G9 m,
    Cert.KernelIdeal.Value.G10 m, Cert.KernelIdeal.Value.run m g, ?_⟩
  refine (θ_run _ _ _).mono (fun r h c => ?_) (Cert.ReferenceIdeal.Value.run_blocks m' g')
  obtain ⟨h6, h7, h8, h9, h10, hargs⟩ := h c
  exact ⟨h6.trans (loss_eq (S c)), h7.trans (dx_eq (S c)), h8.trans (dy_eq (S c)), h9.trans (dlt_eq (S c)),
    h10.trans (db_eq (S c)), hargs⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, preserves, algebraic⟩

end Cert.Proof

end
